-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![8, 512, 768]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = Layout.block ⟨3, ![2, 512, 768]⟩ ⟨3, ![8, 512, 768]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S8x512x32x64 : Shape := ⟨4, ![8, 512, 32, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S8x512x32x64 : S_.BroadcastsInDim S8x512x32x64 (![] : Fin 0 → Fin S8x512x32x64.rank)
  reducesTo_S8x512x32x64_S_d0_1_2_3 : S8x512x32x64.ReducesTo [0, 1, 2, 3] S_

variable [Facts]

def fn {F : FTy → Type} [FloatOps F] (main_arg0 : FVec F S2x512x768 .f32) (main_arg1 : FVec F S768x512 .f32) (main_arg2 : FVec F S8x512x32x64 .f32) (main_arg3 : FVec F S8x512x32x64 .f32) (main_arg4 : FVec F S512x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S8x512x32x64 .f32 := Host.absf main_arg2
  let main_cst_2 : FVec F S_ .f32 := constant S_ .f32 0x7F800000#32
  let main_v10 : FVec F S8x512x32x64 .f32 := broadcastInDim S8x512x32x64 ![] bcast_S_S8x512x32x64 main_cst_2
  let main_v11 : IVec S8x512x32x64 1 := cmpf .olt main_v9 main_v10
  let main_c_3 : IVec S_ 1 := constantI S_ 1 1#1
  let main_v12 : IVec S_ 1 := (fun x v => Host.reduce IntOp.andi x v reducesTo_S8x512x32x64_S_d0_1_2_3 h_S_) main_v11 main_c_3
  let main_v13 : IVec S_ 1 := andi main_v8 main_v12
  main_v13
-- ==== Pre_finite_ReferenceIdeal.lean ====
abbrev S8x512x768 : Shape := ⟨3, ![8, 512, 768]⟩
abbrev S768x2048 : Shape := ⟨2, ![768, 2048]⟩
abbrev S8x512x32x64 : Shape := ⟨4, ![8, 512, 32, 64]⟩
abbrev S2048x768 : Shape := ⟨2, ![2048, 768]⟩
abbrev S_ : Shape := ⟨0, ![]⟩

class Facts : Prop where
  bcast_S_S8x512x768 : S_.BroadcastsInDim S8x512x768 (![] : Fin 0 → Fin S8x512x768.rank)
  reducesTo_S8x512x768_S_d0_1_2 : S8x512x768.ReducesTo [0, 1, 2] S_
  h_S_ : 0 < S_.numel
  bcast_S_S768x2048 : S_.BroadcastsInDim S768x2048 (![] : Fin 0 → Fin S768x2048.rank)
  reducesTo_S768x2048_S_d0_1 : S768x2048.ReducesTo [0, 1] S_
  bcast_S_S8x512x32x64 : S_.BroadcastsInDim S8x512x32x64 (![] : Fin 0 → Fin S8x512x32x64.rank)
  reducesTo_S8x512x32x64_S_d0_1_2_3 : S8x512x32x64.ReducesTo [0, 1, 2, 3] S_

variable [Facts]

def fn {F : FTy → Type} [FloatOps F] (main_arg0 : FVec F S8x512x768 .f32) (main_arg1 : FVec F S768x2048 .f32) (main_arg2 : FVec F S8x512x32x64 .f32) (main_arg3 : FVec F S8x512x32x64 .f32) (main_arg4 : FVec F S2048x768 .f32) : IVec S_ 1 :=
  let main_v0 : FVec F S8x512x768 .f32 := Host.absf main_arg0
  let main_cst : FVec F S_ .f32 := constant S_ .f32 0x7F800000#32
  let main_v1 : FVec F S8x512x768 .f32 := broadcastInDim S8x512x768 ![] bcast_S_S8x512x768 main_cst
  let main_v2 : IVec S8x512x768 1 := cmpf .olt main_v0 main_v1
  let main_c : IVec S_ 1 := constantI S_ 1 1#1
  let main_v3 : IVec S_ 1 := (fun x v => Host.reduce IntOp.andi x v reducesTo_S8x512x768_S_d0_1_2 h_S_) main_v2 main_c
  let main_v4 : FVec F S768x2048 .f32 := Host.absf main_arg1
  let main_cst_0 : FVec F S_ .f32 := constant S_ .f32 0x7F800000#32
  let main_v5 : FVec F S768x2048 .f32 := broadcastInDim S768x2048 ![] bcast_S_S768x2048 main_cst_0
  let main_v6 : IVec S768x2048 1 := cmpf .olt main_v4 main_v5
  let main_c_1 : IVec S_ 1 := constantI S_ 1 1#1
  let main_v7 : IVec S_ 1 := (fun x v => Host.reduce IntOp.andi x v reducesTo_S768x2048_S_d0_1 h_S_) main_v6 main_c_1
  let main_v8 : IVec S_ 1 := andi main_v3 main_v7
  let main_v9 : FVec F S8x512x32x64 .f32 := Host.absf main_arg2
  let main_cst_2 : FVec F S_ .f32 := constant S_ .f32 0x7F800000#32
  let main_v10 : FVec F S8x512x32x64 .f32 := broadcastInDim S8x512x32x64 ![] bcast_S_S8x512x32x64 main_cst_2
  let main_v11 : IVec S8x512x32x64 1 := cmpf .olt main_v9 main_v10
  let main_c_3 : IVec S_ 1 := constantI S_ 1 1#1
  let main_v12 : IVec S_ 1 := (fun x v => Host.reduce IntOp.andi x v reducesTo_S8x512x32x64_S_d0_1_2_3 h_S_) main_v11 main_c_3
  let main_v13 : IVec S_ 1 := andi main_v8 main_v12
  main_v13
-- ==== Kernel.lean ====
abbrev S2x512x768 : Shape := ⟨3, ![2, 512, 768]⟩
abbrev S768x512 : Shape := ⟨2, ![768, 512]⟩
abbrev S8x512x32x64 : Shape := ⟨4, ![8, 512, 32, 64]⟩
abbrev S512x768 : Shape := ⟨2, ![512, 768]⟩
abbrev S_ : Shape := ⟨0, ![]⟩
abbrev S2x512x32x64 : Shape := ⟨4, ![2, 512, 32, 64]⟩
abbrev S2x512x2048 : Shape := ⟨3, ![2, 512, 2048]⟩
abbrev S4x2x512x512 : Shape := ⟨4, ![4, 2, 512, 512]⟩
abbrev S4 : Shape := ⟨1, ![4]⟩
abbrev S1 : Shape := ⟨1, ![1]⟩
abbrev S1x2x512x512 : Shape := ⟨4, ![1, 2, 512, 512]⟩
abbrev S2x512x512 : Shape := ⟨3, ![2, 512, 512]⟩
abbrev S512x512 : Shape := ⟨2, ![512, 512]⟩
abbrev S1x512x768 : Shape := ⟨3, ![1, 512, 768]⟩
abbrev S512x64 : Shape := ⟨2, ![512, 64]⟩
abbrev S1x1x512x64 : Shape := ⟨4, ![1, 1, 512, 64]⟩
abbrev S512 : Shape := ⟨1, ![512]⟩
abbrev S512x1 : Shape := ⟨2, ![512, 1]⟩
abbrev S384x512 : Shape := ⟨2, ![384, 512]⟩
abbrev S256x768 : Shape := ⟨2, ![256, 768]⟩

abbrev nBuf : Space → Nat
  | .hbm => 44
  | .vmem => 12
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S8x512x32x64, .f32⟩
  | .hbm, ⟨3, _⟩ => ⟨S8x512x32x64, .f32⟩
  | .hbm, ⟨4, _⟩ => ⟨S512x768, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x512x32x64, .f32⟩
  | .hbm, ⟨22, _⟩ => ⟨S2x512x2048, .f32⟩
  | .hbm, ⟨23, _⟩ => ⟨S2x512x2048, .bf16⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S2x512x32x64, .f32⟩
  | .hbm, ⟨35, _⟩ => ⟨S2x512x2048, .f32⟩
  | .hbm, ⟨36, _⟩ => ⟨S2x512x2048, .bf16⟩
  | .hbm, ⟨37, _⟩ => ⟨S2x512x768, .bf16⟩
  | .hbm, ⟨38, _⟩ => ⟨S_, .f32⟩
  | .hbm, ⟨39, _⟩ => ⟨S768x512, .f32⟩
  | .hbm, ⟨40, _⟩ => ⟨S768x512, .f32⟩
  | .hbm, ⟨41, _⟩ => ⟨S768x512, .bf16⟩
  | .hbm, ⟨42, _⟩ => ⟨S512x768, .bf16⟩
  | .hbm, ⟨43, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S512x768, .bf16⟩
  | .local _ .vmem, ⟨3, _⟩ => ⟨S2x512x768, .f32⟩
  | .local _ .vmem, ⟨4, _⟩ => ⟨S768x512, .bf16⟩
  | .local _ .vmem, ⟨5, _⟩ => ⟨S768x512, .bf16⟩
  | .local _ .vmem, ⟨6, _⟩ => ⟨S768x512, .bf16⟩
  | .local _ .vmem, ⟨7, _⟩ => ⟨S512x768, .bf16⟩
  | .local _ .vmem, ⟨8, _⟩ => ⟨S512x768, .bf16⟩
  | .local _ .vmem, ⟨9, _⟩ => ⟨S512x768, .bf16⟩
  | .local _ .vmem, ⟨10, _⟩ => ⟨S4x2x512x512, .bf16⟩
  | .local _ .vmem, ⟨11, _⟩ => ⟨S4x2x512x512, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 2 → Bool
  | ⟨0, _⟩ => false
  | ⟨1, _⟩ => true
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 2 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_c_8 : Ref sig .tc := ⟨.hbm, 26, rfl⟩
abbrev main_v13 : Ref sig .tc := ⟨.hbm, 27, rfl⟩
abbrev main_c_9 : Ref sig .tc := ⟨.hbm, 28, rfl⟩
abbrev main_v14 : Ref sig .tc := ⟨.hbm, 29, rfl⟩
abbrev main_v15 : Ref sig .tc := ⟨.hbm, 30, rfl⟩
abbrev main_c_10 : Ref sig .tc := ⟨.hbm, 31, rfl⟩
abbrev main_c_11 : Ref sig .tc := ⟨.hbm, 32, rfl⟩
abbrev main_c_12 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) : Fin 3 → Nat :=
  let c0_i32_25 : BitVec 32 := 0#32
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v36 : BitVec 32 := Scalar.muli v2 c512_i32
  ![0, 0, v36.toNat]
def k0_off2 (d0 : Dev nD) : Fin 3 → Nat :=
  let c0_i32_41 : BitVec 32 := 0#32
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c512_i32_34 : BitVec 32 := 512#32
  let v48 : BitVec 32 := Scalar.muli v13 c512_i32_34
  ![0, 0, v48.toNat]
def k0_off3 (d0 : Dev nD) (c1_i32_6 : BitVec 32) : Fin 3 → Nat :=
  let c0_i32_57 : BitVec 32 := 0#32
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c512_i32_50 : BitVec 32 := 512#32
  let v60 : BitVec 32 := Scalar.muli v24 c512_i32_50
  ![0, 0, v60.toNat]
def k0_dev1 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_82 : BitVec 32 := 1#32
  let v85 : BitVec 32 := Scalar.muli v13 c1_i32_82
  let v86 : BitVec 32 := Scalar.addi c0_i32_83 v85
  v86.toNat
def k0_dev2 (d0 : Dev nD) : Nat :=
  let c0_i32_86 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_85 : BitVec 32 := 1#32
  let v87 : BitVec 32 := Scalar.muli v24 c1_i32_85
  let v88 : BitVec 32 := Scalar.addi c0_i32_86 v87
  v88.toNat
def k0_dev3 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_90 : BitVec 32 := 1#32
  let v97 : BitVec 32 := Scalar.muli v24 c1_i32_90
  let v98 : BitVec 32 := Scalar.addi c0_i32_91 v97
  v98.toNat
def k0_dev4 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_94 : BitVec 32 := 1#32
  let v103 : BitVec 32 := Scalar.muli v13 c1_i32_94
  let v104 : BitVec 32 := Scalar.addi c0_i32_95 v103
  v104.toNat
def k0_dev5 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_98 : BitVec 32 := 1#32
  let v109 : BitVec 32 := Scalar.muli v24 c1_i32_98
  let v110 : BitVec 32 := Scalar.addi c0_i32_99 v109
  v110.toNat
def k0_dev6 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_102 : BitVec 32 := 1#32
  let v115 : BitVec 32 := Scalar.muli v13 c1_i32_102
  let v116 : BitVec 32 := Scalar.addi c0_i32_103 v115
  v116.toNat
def k0_dev7 (d0 : Dev nD) : Nat :=
  let c0_i32_339 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_338 : BitVec 32 := 1#32
  let v441 : BitVec 32 := Scalar.muli v13 c1_i32_338
  let v442 : BitVec 32 := Scalar.addi c0_i32_339 v441
  v442.toNat
def k0_dev8 (d0 : Dev nD) : Nat :=
  let c0_i32_347 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_346 : BitVec 32 := 1#32
  let v449 : BitVec 32 := Scalar.muli v24 c1_i32_346
  let v450 : BitVec 32 := Scalar.addi c0_i32_347 v449
  v450.toNat
def k0_dev9 (d0 : Dev nD) : Nat :=
  let c0_i32_354 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_353 : BitVec 32 := 1#32
  let v457 : BitVec 32 := Scalar.muli v13 c1_i32_353
  let v458 : BitVec 32 := Scalar.addi c0_i32_354 v457
  v458.toNat
def k0_dev10 (d0 : Dev nD) : Nat :=
  let c0_i32_362 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_361 : BitVec 32 := 1#32
  let v465 : BitVec 32 := Scalar.muli v24 c1_i32_361
  let v466 : BitVec 32 := Scalar.addi c0_i32_362 v465
  v466.toNat
def k0_dev11 (d0 : Dev nD) : Nat :=
  let c0_i32_1134_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1133_r0 : BitVec 32 := 1#32
  let v1446_r0 : BitVec 32 := Scalar.muli v13 c1_i32_1133_r0
  let v1447_r0 : BitVec 32 := Scalar.addi c0_i32_1134_r0 v1446_r0
  v1447_r0.toNat
def k0_dev12 (d0 : Dev nD) : Nat :=
  let c0_i32_1137_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1136_r0 : BitVec 32 := 1#32
  let v1448_r0 : BitVec 32 := Scalar.muli v24 c1_i32_1136_r0
  let v1449_r0 : BitVec 32 := Scalar.addi c0_i32_1137_r0 v1448_r0
  v1449_r0.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8x512x768 : Shape := ⟨3, ![8, 512, 768]⟩
abbrev S768x2048 : Shape := ⟨2, ![768, 2048]⟩
abbrev S8x512x32x64 : Shape := ⟨4, ![8, 512, 32, 64]⟩
abbrev S2048x768 : Shape := ⟨2, ![2048, 768]⟩
abbrev S8x512x2048 : Shape := ⟨3, ![8, 512, 2048]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S8x32x512x512 : Shape := ⟨4, ![8, 32, 512, 512]⟩
abbrev S1x1x512x512 : Shape := ⟨4, ![1, 1, 512, 512]⟩
abbrev S8x32x512 : Shape := ⟨3, ![8, 32, 512]⟩
abbrev S8x32x512x1 : Shape := ⟨4, ![8, 32, 512, 1]⟩
abbrev S1x1x512x1 : Shape := ⟨4, ![1, 1, 512, 1]⟩
abbrev S8x32x64x512 : Shape := ⟨4, ![8, 32, 64, 512]⟩

abbrev nBuf : Space → Nat
  | .hbm => 57
  | .vmem => 0
  | .smem => 0
  | _ => 0

abbrev bufTy : (tb : Table) → Fin (tcTables nBuf tb) → BufTy
  | .hbm, ⟨0, _⟩ => ⟨S8x512x768, .f32⟩
  | .hbm, ⟨1, _⟩ => ⟨S768x2048, .f32⟩
  | .hbm, ⟨2, _⟩ => ⟨S8x512x32x64, .f32⟩
  | .hbm, ⟨3, _⟩ => ⟨S8x512x32x64, .f32⟩
  | .hbm, ⟨4, _⟩ => ⟨S2048x768, .f32⟩
  | .hbm, ⟨5, _⟩ => ⟨S8x512x2048, .f32⟩
  | .hbm, ⟨6, _⟩ => ⟨S8x512x32x64, .f32⟩
  | .hbm, ⟨7, _⟩ => ⟨S512, .i32⟩
  | .hbm, ⟨8, _⟩ => ⟨S512x1, .i32⟩
  | .hbm, ⟨9, _⟩ => ⟨S512, .i32⟩
  | .hbm, ⟨10, _⟩ => ⟨S1x512, .i32⟩
  | .hbm, ⟨11, _⟩ => ⟨S512x512, .i32⟩
  | .hbm, ⟨12, _⟩ => ⟨S512x512, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i1⟩
  | .hbm, ⟨18, _⟩ => ⟨S8x32x512x512, .f32⟩
  | .hbm, ⟨19, _⟩ => ⟨S_, .f32⟩
  | .hbm, ⟨20, _⟩ => ⟨S8x32x512x512, .f32⟩
  | .hbm, ⟨21, _⟩ => ⟨S8x32x512x512, .f32⟩
  | .hbm, ⟨22, _⟩ => ⟨S1x1x512x512, .i1⟩
  | .hbm, ⟨23, _⟩ => ⟨S_, .f32⟩
  | .hbm, ⟨24, _⟩ => ⟨S_, .f32⟩
  | .hbm, ⟨25, _⟩ => ⟨S8x32x512x512, .i1⟩
  | .hbm, ⟨26, _⟩ => ⟨S8x32x512x512, .f32⟩
  | .hbm, ⟨27, _⟩ => ⟨S8x32x512x512, .f32⟩
  | .hbm, ⟨28, _⟩ => ⟨S_, .f32⟩
  | .hbm, ⟨29, _⟩ => ⟨S8x32x512, .f32⟩
  | .hbm, ⟨30, _⟩ => ⟨S8x32x512x1, .f32⟩
  | .hbm, ⟨31, _⟩ => ⟨S8x32x512x512, .f32⟩
  | .hbm, ⟨32, _⟩ => ⟨S8x32x512x512, .f32⟩
  | .hbm, ⟨33, _⟩ => ⟨S8x32x512x512, .f32⟩
  | .hbm, ⟨34, _⟩ => ⟨S_, .i1⟩
  | .hbm, ⟨35, _⟩ => ⟨S512, .i1⟩
  | .hbm, ⟨36, _⟩ => ⟨S1x1x512x1, .i1⟩
  | .hbm, ⟨37, _⟩ => ⟨S_, .f32⟩
  | .hbm, ⟨38, _⟩ => ⟨S8x32x512, .f32⟩
  | .hbm, ⟨39, _⟩ => ⟨S8x32x512x1, .f32⟩
  | .hbm, ⟨40, _⟩ => ⟨S_, .f32⟩
  | .hbm, ⟨41, _⟩ => ⟨S_, .f32⟩
  | .hbm, ⟨42, _⟩ => ⟨S8x32x512x1, .i1⟩
  | .hbm, ⟨43, _⟩ => ⟨S8x32x512x1, .f32⟩
  | .hbm, ⟨44, _⟩ => ⟨S8x32x512x1, .f32⟩
  | .hbm, ⟨45, _⟩ => ⟨S8x32x512x512, .f32⟩
  | .hbm, ⟨46, _⟩ => ⟨S8x32x512x512, .f32⟩
  | .hbm, ⟨47, _⟩ => ⟨S1x1x512x1, .i1⟩
  | .hbm, ⟨48, _⟩ => ⟨S_, .f32⟩
  | .hbm, ⟨49, _⟩ => ⟨S_, .f32⟩
  | .hbm, ⟨50, _⟩ => ⟨S8x32x512x512, .i1⟩
  | .hbm, ⟨51, _⟩ => ⟨S8x32x512x512, .f32⟩
  | .hbm, ⟨52, _⟩ => ⟨S8x32x512x512, .f32⟩
  | .hbm, ⟨53, _⟩ => ⟨S8x32x64x512, .f32⟩
  | .hbm, ⟨54, _⟩ => ⟨S8x512x32x64, .f32⟩
  | .hbm, ⟨55, _⟩ => ⟨S8x512x2048, .f32⟩
  | .hbm, ⟨56, _⟩ => ⟨S8x512x768, .f32⟩
  | _, _ => ⟨S8x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Proto.lean ====
/- The protocol between the four devices: the cells, what each unit hands over, what each device owes at launch,
   and the levels that order the waits. -/
module

public import proofs.«01_k».proof.Proof.Gen.KernelIdeal
public import proofs.«01_k».proof.Proof.Gen.KernelIdeal.Launch
public import Idealize.ShloMosaic.Lib.Pipeline.Regions
public import Idealize.ShloMosaic.Lib.Pipeline.RegionTalk
public import Idealize.ShloMosaic.Lib.Rounds

@[expose] public section

set_option maxRecDepth 16384

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The ring -/

/-- The left neighbour, the right neighbour and the opposite device of the ring of four. -/
def lt (c : Dev nD) : Dev nD := c + 3
def rt (c : Dev nD) : Dev nD := c + 1
def op (c : Dev nD) : Dev nD := c + 2

theorem rt_lt : ∀ c, rt (lt c) = c := by decide
theorem lt_rt : ∀ c, lt (rt c) = c := by decide
theorem lt_lt : ∀ c, lt (lt c) = op c := by decide
theorem rt_rt : ∀ c, rt (rt c) = op c := by decide

theorem dev1_eq (c : Dev nD) : (⟨k0_dev1 c, k0_dev1_lt c⟩ : Dev nD) = lt c := by revert c; decide +kernel
theorem dev2_eq (c : Dev nD) : (⟨k0_dev2 c, k0_dev2_lt c⟩ : Dev nD) = rt c := by revert c; decide +kernel
theorem dev3_eq (c : Dev nD) : (⟨k0_dev3 c, k0_dev3_lt c⟩ : Dev nD) = rt c := by revert c; decide +kernel
theorem dev4_eq (c : Dev nD) : (⟨k0_dev4 c, k0_dev4_lt c⟩ : Dev nD) = lt c := by revert c; decide +kernel
theorem dev5_eq (c : Dev nD) : (⟨k0_dev5 c, k0_dev5_lt c⟩ : Dev nD) = rt c := by revert c; decide +kernel
theorem dev6_eq (c : Dev nD) : (⟨k0_dev6 c, k0_dev6_lt c⟩ : Dev nD) = lt c := by revert c; decide +kernel
theorem dev7_eq (c : Dev nD) : (⟨k0_dev7 c, k0_dev7_lt c⟩ : Dev nD) = lt c := by revert c; decide +kernel
theorem dev8_eq (c : Dev nD) : (⟨k0_dev8 c, k0_dev8_lt c⟩ : Dev nD) = rt c := by revert c; decide +kernel
theorem dev9_eq (c : Dev nD) : (⟨k0_dev9 c, k0_dev9_lt c⟩ : Dev nD) = lt c := by revert c; decide +kernel
theorem dev10_eq (c : Dev nD) : (⟨k0_dev10 c, k0_dev10_lt c⟩ : Dev nD) = rt c := by revert c; decide +kernel
theorem dev11_eq (c : Dev nD) : (⟨k0_dev11 c, k0_dev11_lt c⟩ : Dev nD) = lt c := by revert c; decide +kernel
theorem dev12_eq (c : Dev nD) : (⟨k0_dev12 c, k0_dev12_lt c⟩ : Dev nD) = rt c := by revert c; decide +kernel

/-- The device whose columns of K and V slot `j` holds: own, left, right, opposite. -/
def who (c : Dev nD) : Fin 4 → Dev nD
  | 0 => c | 1 => lt c | 2 => rt c | 3 => op c

theorem off2_eq : ∀ c : Dev nD, k0_off2 c = ![0, 0, 512 * (lt c).val] := by decide +kernel
theorem off3_1_eq : ∀ c : Dev nD, k0_off3 c 1#32 = ![0, 0, 512 * (rt c).val] := by decide +kernel
theorem off3_2_eq : ∀ c : Dev nD, k0_off3 c 2#32 = ![0, 0, 512 * (op c).val] := by decide +kernel

/-- Where slot `j`'s copy reads: the offsets the program computes. -/
def hoff (c : Dev nD) : Fin 4 → Fin 3 → ℕ
  | 0 => k0_off1 c | 1 => k0_off2 c | 2 => k0_off3 c 1#32 | 3 => k0_off3 c 2#32

theorem hoff_eq (c : Dev nD) (j : Fin 4) : hoff c j = ![0, 0, 512 * (who c j).val] := by
  fin_cases j
  · exact k0_off1_eq c
  · exact off2_eq c
  · exact off3_1_eq c
  · exact off3_2_eq c

theorem hoff_inb (c : Dev nD) (j : Fin 4) : ∀ a, hoff c j a + S2x512x512.size a ≤ S2x512x2048.size a := by
  rw [hoff_eq]; generalize who c j = d; revert d; decide

/-! ## The buffers -/

abbrev xM : Memref sig .tc .vmem S2x512x768 .bf16 := Memref.whole cc0_stg0_0
abbrev wqM : Memref sig .tc .vmem S768x512 .bf16 := Memref.whole cc0_stg1_0
abbrev woM : Memref sig .tc .vmem S512x768 .bf16 := Memref.whole cc0_stg2_0
abbrev outM : Memref sig .tc .vmem S2x512x768 .f32 := Memref.whole cc0_stg3_0
abbrev khM : Memref sig .tc .hbm S2x512x2048 .bf16 := Memref.whole main_v11
abbrev vhM : Memref sig .tc .hbm S2x512x2048 .bf16 := Memref.whole main_v18
abbrev qL : Memref sig .tc .vmem S768x512 .bf16 := Memref.whole cc0_scratch0
abbrev qR : Memref sig .tc .vmem S768x512 .bf16 := Memref.whole cc0_scratch1
abbrev qO : Memref sig .tc .vmem S768x512 .bf16 := Memref.whole cc0_scratch2
abbrev oL : Memref sig .tc .vmem S512x768 .bf16 := Memref.whole cc0_scratch3
abbrev oR : Memref sig .tc .vmem S512x768 .bf16 := Memref.whole cc0_scratch4
abbrev oO : Memref sig .tc .vmem S512x768 .bf16 := Memref.whole cc0_scratch5
abbrev kM : Memref sig .tc .vmem S4x2x512x512 .bf16 := Memref.whole cc0_scratch6
abbrev vM : Memref sig .tc .vmem S4x2x512x512 .bf16 := Memref.whole cc0_scratch7

/-- Rows 0..383 and rows 384..767 of a buffer of Wq's shape. -/
abbrev qLo (M : Memref sig .tc .vmem S768x512 .bf16) : Memref sig .tc .vmem S384x512 .bf16 :=
  M.slice (Rect.unit (s := S768x512) ![0, 0] S384x512.size (by decide)) (fun _ => rfl)
abbrev qHi (M : Memref sig .tc .vmem S768x512 .bf16) : Memref sig .tc .vmem S384x512 .bf16 :=
  M.slice (Rect.unit (s := S768x512) ![384, 0] S384x512.size (by decide)) (fun _ => rfl)
/-- Rows 0..255 and rows 256..511 of a buffer of Wo's shape. -/
abbrev oLo (M : Memref sig .tc .vmem S512x768 .bf16) : Memref sig .tc .vmem S256x768 .bf16 :=
  M.slice (Rect.unit (s := S512x768) ![0, 0] S256x768.size (by decide)) (fun _ => rfl)
abbrev oHi (M : Memref sig .tc .vmem S512x768 .bf16) : Memref sig .tc .vmem S256x768 .bf16 :=
  M.slice (Rect.unit (s := S512x768) ![256, 0] S256x768.size (by decide)) (fun _ => rfl)

theorem slot_inb (j : Fin 4) : ∀ a, (![j.val, 0, 0, 0] : Fin 4 → ℕ) a + S1x2x512x512.size a ≤ S4x2x512x512.size a := by
  revert j; decide
/-- Slot `j` of a scratch of four slots. -/
abbrev slot (M : Memref sig .tc .vmem S4x2x512x512 .bf16) (j : Fin 4) : Memref sig .tc .vmem S2x512x512 .bf16 :=
  (M.slice (Rect.unit (s := S4x2x512x512) ![j.val, 0, 0, 0] S1x2x512x512.size (slot_inb j)) (fun _ => rfl)).squeeze S2x512x512
    squeezes_S1x2x512x512_S2x512x512
/-- The columns slot `j`'s copy reads. -/
abbrev hcol (M : Memref sig .tc .hbm S2x512x2048 .bf16) (c : Dev nD) (j : Fin 4) : Memref sig .tc .hbm S2x512x512 .bf16 :=
  M.slice (Rect.unit (s := S2x512x2048) (hoff c j) S2x512x512.size (hoff_inb c j)) (fun _ => rfl)

/-! ## The inputs the copies move -/

/-- Each device's slab of Wq and Wo, and its rows of K and V, as the kernel is entered. -/
structure Ins (F : FTy → Type) where
  x : Dev nD → FVec F S2x512x768 .bf16
  wq : Dev nD → FVec F S768x512 .bf16
  wo : Dev nD → FVec F S512x768 .bf16
  kh : Dev nD → FVec F S2x512x2048 .bf16
  vh : Dev nD → FVec F S2x512x2048 .bf16

theorem col_lt (d : Dev nD) (a : Fin 512) : 512 * d.val + a.val < 2048 := by
  have := d.isLt; have := a.isLt; simp only [nD] at *; omega

/-- What a scratch of four slots holds once every copy has landed: slot `j` is the columns of `who c j`. -/
def filled (c : Dev nD) (h : FVec F S2x512x2048 .bf16) : FVec F S4x2x512x512 .bf16 := fun i =>
  h (fun a => match a with
    | 0 => (i 1 : Fin 2) | 1 => (i 2 : Fin 512)
    | 2 => (⟨512 * (who c (i 0)).val + (i 3 : Fin 512).val, col_lt _ _⟩ : Fin 2048))

/-! ## The resource algebra and points-tos -/

abbrev UU : Type := UR sig nD τ × Rounds.URounds (GSem nD τ sig) Bool

local notation "𝕄" => MT nD τ sig Unit (Elt F) ℕ UU ℕ

abbrev EP : Emb (UR sig nD τ) (MT nD τ sig Unit (Elt F) ℕ UU ℕ) := embL
abbrev ER : Emb (Rounds.URounds (GSem nD τ sig) Bool) (MT nD τ sig Unit (Elt F) ℕ UU ℕ) := embR

/-- Device `c` holds share `q` of what view `M` covers, at contents `f`. -/
abbrev mp {sp : Space} {s : Shape} {e : EltTy} (c : Dev nD) (M : Memref sig .tc sp s e) (q : PosShare TreeShare)
    (f : Buf (Elt F) (M.view.loc (c : Thread nD τ))) : sProp 𝕄 :=
  M.view.loc (c : Thread nD τ) ↦[M.view.set]{q} f

/-- Fully, at contents not chosen. -/
abbrev mpAny {sp : Space} {s : Shape} {e : EltTy} (c : Dev nD) (M : Memref sig .tc sp s e) : sProp 𝕄 :=
  iprop(∃ f : Buf (Elt F) (M.view.loc (c : Thread nD τ)), mp c M fullShare f)

abbrev qA : PosShare TreeShare := fullShare.left
abbrev qB : PosShare TreeShare := fullShare.right.left
abbrev qC : PosShare TreeShare := fullShare.right.right
/-- The four shares of an array four copies read. -/
def q4 : Fin 4 → PosShare TreeShare
  | 0 => fullShare.left.left | 1 => fullShare.left.right | 2 => fullShare.right.left | 3 => fullShare.right.right

/-! ## Cells -/

abbrev barC (c : Dev nD) : GSem nD τ sig := ((c : Thread nD τ), .reg 0)
abbrev finC (c : Dev nD) : GSem nD τ sig := ((c : Thread nD τ), .reg 1)
abbrev dC (c : Dev nD) (k : Fin 28) : GSem nD τ sig := ((c : Thread nD τ), .dma k)

abbrev nQ : ℕ := (qL).view.dmaCredit
abbrev nO : ℕ := (oL).view.dmaCredit
abbrev nQh : ℕ := (qLo qL).view.dmaCredit
abbrev nOh : ℕ := (oLo oL).view.dmaCredit
abbrev nS : ℕ := (slot kM 0).view.dmaCredit

/-- The credit of the one copy each DMA cell takes. -/
def amt (k : ℕ) : ℕ := match k with
  | 4 | 5 | 8 | 9 => nQ
  | 6 | 7 | 10 | 11 => nO
  | 12 | 13 | 16 | 17 => nQh
  | 14 | 15 | 18 | 19 => nOh
  | _ => nS

theorem amt_pos (k : ℕ) : 0 < amt k := by
  unfold amt; split <;> exact View.dmaCredit_pos _ (by decide)

variable (I : Ins F)

/-- Handed to device `c` by its right neighbour (`false`) or its left one (`true`) with the barrier's unit: the
    buffers of the payer that `c` writes, and that the payer's cells those copies credit are open. -/
def barPay (c : Dev nD) : Bool → sProp 𝕄
  | false => iprop(mpAny (rt c) qL ∗ mpAny (rt c) oL ∗ mpAny (rt c) (qHi qO) ∗ mpAny (rt c) (oHi oO)
      ∗ reached ER (dC (rt c) 8) 0 ∗ reached ER (dC (rt c) 10) 0 ∗ reached ER (dC (rt c) 17) 0 ∗ reached ER (dC (rt c) 19) 0
      ∗ reached ER (finC (rt c)) 0)
  | true => iprop(mpAny (lt c) qR ∗ mpAny (lt c) oR ∗ mpAny (lt c) (qLo qO) ∗ mpAny (lt c) (oLo oO)
      ∗ reached ER (dC (lt c) 9) 0 ∗ reached ER (dC (lt c) 11) 0 ∗ reached ER (dC (lt c) 16) 0 ∗ reached ER (dC (lt c) 18) 0
      ∗ reached ER (finC (lt c)) 0)

/-- Slot `j` landed, with the share of the source the copy read. -/
def slotPay (c : Dev nD) (M : Memref sig .tc .vmem S4x2x512x512 .bf16) (H : Memref sig .tc .hbm S2x512x2048 .bf16)
    (f : Buf (Elt F) (M.view.loc (c : Thread nD τ))) (h : Buf (Elt F) (H.view.loc (c : Thread nD τ))) (j : Fin 4) : sProp 𝕄 :=
  iprop(mp c (slot M j) fullShare f ∗ mp c (hcol H c j) (q4 j) h)

/-- What the copy crediting DMA cell `k` of device `c` hands over: 4..7 and 12..15 the share a remote copy read,
    8..11 and 16..19 a landing buffer at its neighbour's data, 20..27 a slot of K or V. -/
def dPay (c : Dev nD) (k : ℕ) : sProp 𝕄 := match k with
  | 4 => mp c wqM qA (I.wq c)
  | 5 => mp c wqM qB (I.wq c)
  | 6 => mp c woM qA (I.wo c)
  | 7 => mp c woM qB (I.wo c)
  | 8 => mp c qL fullShare (I.wq (lt c))
  | 9 => mp c qR fullShare (I.wq (rt c))
  | 10 => mp c oL fullShare (I.wo (lt c))
  | 11 => mp c oR fullShare (I.wo (rt c))
  | 12 => mp c (qLo qR) qA (I.wq (rt c))
  | 13 => mp c (qHi qL) qA (I.wq (lt c))
  | 14 => mp c (oLo oR) qA (I.wo (rt c))
  | 15 => mp c (oHi oL) qA (I.wo (lt c))
  | 16 => mp c (qLo qO) fullShare (I.wq (op c))
  | 17 => mp c (qHi qO) fullShare (I.wq (op c))
  | 18 => mp c (oLo oO) fullShare (I.wo (op c))
  | 19 => mp c (oHi oO) fullShare (I.wo (op c))
  | 20 => slotPay c kM khM (filled c (I.kh c)) (I.kh c) 0
  | 21 => slotPay c kM khM (filled c (I.kh c)) (I.kh c) 1
  | 22 => slotPay c kM khM (filled c (I.kh c)) (I.kh c) 2
  | 23 => slotPay c kM khM (filled c (I.kh c)) (I.kh c) 3
  | 24 => slotPay c vM vhM (filled c (I.vh c)) (I.vh c) 0
  | 25 => slotPay c vM vhM (filled c (I.vh c)) (I.vh c) 1
  | 26 => slotPay c vM vhM (filled c (I.vh c)) (I.vh c) 2
  | 27 => slotPay c vM vhM (filled c (I.vh c)) (I.vh c) 3
  | _ => iprop(emp)

/-- The semaphores the kernel owns or signals: all but the staging copies'. -/
def mine : SemLoc sig → Bool
  | .reg _ => true
  | .dma k => decide (4 ≤ k.val)

/-- Round 0: two duties on the barrier cell and on the final cell, one on every DMA cell of the kernel's. -/
def Rd : Rounds.Schedule (GSem nD τ sig) Bool 𝕄 where
  duties g r := if r = 0 ∧ g.1.2 = .tc ∧ mine g.2 = true then
      (match g.2 with | .reg _ => Finset.univ | .dma _ => {true}) else ∅
  unitless _ := False
  amount g _ _ := match g.2 with | .reg _ => 1 | .dma k => amt k.val
  payload g _ d := match g.2 with
    | .reg s => if s.val = 0 then barPay g.1.1 d else iprop(emp)
    | .dma k => dPay I g.1.1 k.val
  amount_pos g _ _ _ := by split; exacts [Nat.one_pos, amt_pos _]

set_option synthInstance.maxHeartbeats 400000 in
instance barPay_storable (c : Dev nD) (d : Bool) : BI.Storable (upEmb : UEmb _ 𝕄) (barPay (F := F) c d) := by
  cases d <;> (dsimp only [barPay]; infer_instance)
instance dPay_storable (c : Dev nD) (k : ℕ) : BI.Storable (upEmb : UEmb _ 𝕄) (dPay I c k) := by
  unfold dPay slotPay; split <;> infer_instance
instance Rd_payload_storable (g : GSem nD τ sig) (r : ℕ) (d : Bool) :
    BI.Storable (upEmb : UEmb _ 𝕄) ((Rd I).payload g r d) := by
  show BI.Storable upEmb (match g.2 with
    | .reg s => if s.val = 0 then barPay g.1.1 d else iprop(emp)
    | .dma k => dPay I g.1.1 k.val)
  (repeat' split) <;> infer_instance

section Sched

variable (c : Dev nD)

theorem duties_reg (s : Fin 2) : (Rd I).duties ((c : Thread nD τ), .reg s) 0 = Finset.univ := by
  dsimp only [Rd]; exact if_pos ⟨rfl, rfl, rfl⟩
theorem duties_dma (k : Fin 28) (h : 4 ≤ k.val) : (Rd I).duties (dC c k) 0 = {true} := by
  dsimp only [Rd]; exact if_pos ⟨rfl, rfl, decide_eq_true h⟩
theorem duties_later (g : GSem nD τ sig) : ∀ r, 1 ≤ r → (Rd I).duties g r = ∅ :=
  fun r hr => by dsimp only [Rd]; rw [if_neg (fun h => by omega)]

theorem amount_reg (s : Fin 2) (d : Bool) : (Rd I).amount ((c : Thread nD τ), .reg s) 0 d = 1 := rfl
theorem amount_dma (k : Fin 28) (d : Bool) : (Rd I).amount (dC c k) 0 d = amt k.val := rfl

theorem expect_reg (s : Fin 2) : (Rd I).expect ((c : Thread nD τ), .reg s) 0 = 2 := by
  unfold Schedule.expect Schedule.amountOf; rw [duties_reg]; rfl
theorem expect_dma (k : Fin 28) (h : 4 ≤ k.val) : (Rd I).expect (dC c k) 0 = amt k.val := by
  unfold Schedule.expect Schedule.amountOf; rw [duties_dma I c k h, Finset.sum_singleton, amount_dma]

theorem rest_bar : bigSep ((Rd I).duties (barC c) 0 \ ∅) (fun d => (Rd I).payload (barC c) 0 d)
    = iprop(barPay (F := F) c false ∗ barPay c true) := by
  rw [Finset.sdiff_empty, duties_reg, show (Finset.univ : Finset Bool) = {false, true} from by decide,
    bigSep_insert (by decide), bigSep_singleton]; rfl
theorem rest_dma (k : Fin 28) (h : 4 ≤ k.val) :
    bigSep ((Rd I).duties (dC c k) 0 \ ∅) (fun d => (Rd I).payload (dC c k) 0 d) = dPay I c k.val := by
  rw [Finset.sdiff_empty, duties_dma I c k h, bigSep_singleton]; rfl

end Sched

/-! ## Debts and levels -/

/-- A list of debts, the first to be paid first. -/
def owe : List (GSem nD τ sig × ℕ) → CellTallies nD τ sig Unit
  | [] => 0
  | a :: l => owe l + tallyAt a.1 () a.2

/-- What device `c` owes at launch, in the order it pays. -/
def dues (c : Dev nD) : List (GSem nD τ sig × ℕ) :=
  [(barC (lt c), 1), (barC (rt c), 1),
   (dC (rt c) 8, amt 8), (dC (lt c) 9, amt 9), (dC (rt c) 10, amt 10), (dC (lt c) 11, amt 11),
   (dC (lt c) 16, amt 16), (dC (rt c) 17, amt 17), (dC (lt c) 18, amt 18), (dC (rt c) 19, amt 19),
   (finC (lt c), 1), (finC (rt c), 1)]

def L (g : GSem nD τ sig) : Finset Unit := if g.1.2 = .tc then {()} else ∅
/-- The level of a semaphore: barrier 1, first-phase receives 2, second-phase receives 3, final 4, the rest 0. -/
def lvS : SemLoc sig → ℕ
  | .reg s => if s.val = 0 then 1 else 4
  | .dma k => if 8 ≤ k.val ∧ k.val < 12 then 2 else if 16 ≤ k.val ∧ k.val < 20 then 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem owe_pos {l : List (GSem nD τ sig × ℕ)} {g : GSem nD τ sig} {u : Unit} (h : 0 < owe l g u) : ∃ a ∈ l, a.1 = g := by
  induction l with
  | nil => exact absurd h (Nat.lt_irrefl 0)
  | cons a l ih =>
    rw [owe, Pi.add_apply, Finsupp.add_apply] at h
    rcases Nat.add_pos_iff_pos_or_pos.mp h with h | h
    · obtain ⟨b, hb, e⟩ := ih h; exact ⟨b, List.mem_cons_of_mem _ hb, e⟩
    · rw [tallyAt_apply] at h
      split at h
      · next hg => exact ⟨a, List.mem_cons_self, hg.1.symm⟩
      · exact absurd h (Nat.lt_irrefl 0)

/-- What device `c` still owes after its first `n` payments. -/
abbrev due (c : Dev nD) (n : ℕ) : CellTallies nD τ sig Unit := owe ((dues c).drop n)

/-- From payment `n` on, every debt is on a device's core at a level at least `m`. -/
def HighFrom (n m : ℕ) : Prop := ∀ c : Dev nD, ∀ a ∈ (dues c).drop n, a.1.1.2 = .tc ∧ m ≤ lvS a.1.2
theorem high0 : HighFrom 0 1 := by
  intro c a ha; simp only [dues, List.drop, List.mem_cons, List.not_mem_nil, or_false] at ha
  rcases ha with rfl | rfl | rfl | rfl | rfl | rfl | rfl | rfl | rfl | rfl | rfl | rfl <;> exact ⟨rfl, Nat.le_of_ble_eq_true rfl⟩
theorem high2 : HighFrom 2 2 := by
  intro c a ha; simp only [dues, List.drop, List.mem_cons, List.not_mem_nil, or_false] at ha
  rcases ha with rfl | rfl | rfl | rfl | rfl | rfl | rfl | rfl | rfl | rfl <;> exact ⟨rfl, Nat.le_of_ble_eq_true rfl⟩
theorem high6 : HighFrom 6 3 := by
  intro c a ha; simp only [dues, List.drop, List.mem_cons, List.not_mem_nil, or_false] at ha
  rcases ha with rfl | rfl | rfl | rfl | rfl | rfl <;> exact ⟨rfl, Nat.le_of_ble_eq_true rfl⟩
theorem high10 : HighFrom 10 4 := by
  intro c a ha; simp only [dues, List.drop, List.mem_cons, List.not_mem_nil, or_false] at ha
  rcases ha with rfl | rfl <;> exact ⟨rfl, Nat.le_of_ble_eq_true rfl⟩

/-- A wait on a semaphore below every remaining debt is allowed. -/
theorem mayWait (c : Dev nD) (sm : SemLoc sig) (n m : ℕ) (h : HighFrom n m) (hs : lvS sm < m) :
    (levAts L lv : sProp 𝕄) ⊢ MayWait (c : Thread nD τ) sm () (due c n) :=
  MayOwe.of_cut (L := L) (lev := lv) (lvS sm) (fun p hp => by rw [Finset.mem_singleton.mp hp, L_tc]; exact Finset.mem_singleton_self _)
    (fun g u hg => by
      obtain ⟨a, ha, rfl⟩ := owe_pos hg
      unfold L; rw [if_pos (h c a ha).1]; exact Finset.mem_singleton_self _)
    (fun p hp => by rw [Finset.mem_singleton.mp hp]; exact le_refl _)
    (fun g u hg => by
      obtain ⟨a, ha, rfl⟩ := owe_pos hg
      exact lt_of_lt_of_le hs (h c a ha).2)

end Cert.Attn

end
-- ==== Proof.Land.lean ====
/- What the landings leave: the copied data, element by element. -/
module

public import proofs.«01_k».proof.Proof.Proto
public import Idealize.ShloMosaic.Lib.Exec

@[expose] public section

set_option maxRecDepth 16384

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Landings -/

section Landings

variable {κ : Kind} {sp sp' : Space} {s : Shape} {e : EltTy}

/-- Data read through one view and written through another leaves at the written positions whatever agrees, position by
    position, with what was read. -/
theorem write_read_same (v : View sig κ sp s e) (v' : View sig κ sp' s e)
    (fd : v'.ty.Contents (Elt F)) (fs : v.ty.Contents (Elt F)) (g : v'.ty.Contents (Elt F))
    (h : ∀ x : s.Idx, v'.read (Elt F) g x = v.read (Elt F) fs x) :
    ∀ i ∈ v'.set, v'.write (Elt F) fd (v.read (Elt F) fs) Finset.univ i = g i := by
  intro i hi
  obtain ⟨x, -, rfl⟩ := Finset.mem_map.mp hi
  rw [View.write_emb_of_mem _ _ (Finset.mem_univ x), ← h x, View.read_apply]
  simp

end Landings

/-- Where a slot's position lies in its scratch, by coordinates. -/
theorem slot_coord (j : Fin 4) (x : S2x512x512.Idx) (h : S2x512x512.numel = S1x2x512x512.numel) (a : Fin 4) :
    ((Rect.unit (s := S4x2x512x512) ![j.val, 0, 0, 0] S1x2x512x512.size (slot_inb j)).emb (Shape.reshapeEquiv h x) a).val
      = (![j.val, (x 0).val, (x 1).val, (x 2).val] : Fin 4 → ℕ) a := by
  rw [Rect.emb_apply, Shape.reshapeEquiv_cons_one (n := 3) (d := ![2, 512, 512]) h x]
  fin_cases a <;> simp [Rect.unit, Fin.cons] <;> rfl

/-- Where a column block's position lies, by coordinates. -/
theorem hcol_coord (c : Dev nD) (j : Fin 4) (x : S2x512x512.Idx) (a : Fin 3) :
    ((Rect.unit (s := S2x512x2048) (hoff c j) S2x512x512.size (hoff_inb c j)).emb x a).val
      = (![(x 0).val, (x 1).val, 512 * (who c j).val + (x 2).val] : Fin 3 → ℕ) a := by
  rw [Rect.emb_apply]
  show hoff c j a + 1 * (x a).val = _
  rw [hoff_eq]
  fin_cases a <;> simp

/-- A full slot read: the columns of the device it is for. -/
theorem slot_read (c : Dev nD) (j : Fin 4) (f : FVec F S2x512x2048 .bf16) (x : S2x512x512.Idx)
    (h : S2x512x512.numel = S1x2x512x512.numel) :
    filled c f ((Rect.unit (s := S4x2x512x512) ![j.val, 0, 0, 0] S1x2x512x512.size (slot_inb j)).emb (Shape.reshapeEquiv h x))
      = f ((Rect.unit (s := S2x512x2048) (hoff c j) S2x512x512.size (hoff_inb c j)).emb x) := by
  unfold filled
  refine congrArg f (funext fun a => Fin.ext ?_)
  rw [hcol_coord]
  have e := slot_coord j x h
  fin_cases a
  · exact e 1
  · exact e 2
  · show 512 * (who c _).val + _ = 512 * (who c j).val + (x 2).val
    rw [show ((Rect.unit (s := S4x2x512x512) ![j.val, 0, 0, 0] S1x2x512x512.size (slot_inb j)).emb (Shape.reshapeEquiv h x) 0)
      = j from Fin.ext (e 0)]
    exact congrArg _ (e 3)

theorem land_k (c : Dev nD) (j : Fin 4) (fd : Buf (Elt F) ((slot kM j).view.loc (c : Thread nD τ))) (f : FVec F S2x512x2048 .bf16) :
    ∀ i ∈ (slot kM j).view.set, (slot kM j).view.write (Elt F) fd ((hcol khM c j).view.read (Elt F) f) Finset.univ i = filled c f i :=
  write_read_same (hcol khM c j).view (slot kM j).view fd f (filled c f) fun x => slot_read c j f x _
theorem land_v (c : Dev nD) (j : Fin 4) (fd : Buf (Elt F) ((slot vM j).view.loc (c : Thread nD τ))) (f : FVec F S2x512x2048 .bf16) :
    ∀ i ∈ (slot vM j).view.set, (slot vM j).view.write (Elt F) fd ((hcol vhM c j).view.read (Elt F) f) Finset.univ i = filled c f i :=
  write_read_same (hcol vhM c j).view (slot vM j).view fd f (filled c f) fun x => slot_read c j f x _

end Cert.Attn

end
-- ==== Proof.Rules.lean ====
/- The records of the launch and the rules of the kernel's copies, signals and waits. -/
module

public import proofs.«01_k».proof.Proof.Land
public import Idealize.ShloMosaic.Lib.Exec

@[expose] public section

set_option maxRecDepth 16384

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The records and the rules -/

abbrev defs₁ : Defs nD τ sig (Elt F) Λ₀ := defs₀
abbrev 𝒱 : Variants := Variants.none

/-- The semaphores allocated for the region: the final one and the twenty-four of the copies. -/
def osem (j : Fin 25) : SemLoc sig := if h : j.val = 0 then .reg 1 else .dma (⟨j.val + 3, by omega⟩ : Fin 28)
theorem osem_inj : Function.Injective osem := by decide +kernel
theorem osem_ne_bar : ∀ j : Fin 25, osem j ≠ .reg 0 := by decide +kernel

def barEmb : Dev nD ↪ GSem nD τ sig := ⟨fun c => barC c, fun _ _ h => congrArg (fun g : GSem nD τ sig => g.1.1) h⟩
def scEmb : Dev nD × Fin 25 ↪ GSem nD τ sig :=
  ⟨fun ck => ((ck.1 : Thread nD τ), osem ck.2), fun _ _ h =>
    Prod.ext (congrArg (fun g : GSem nD τ sig => g.1.1) h) (osem_inj (congrArg Prod.snd h))⟩
/-- The barrier cells, one per device, and the cells of the region's semaphores. -/
abbrev barCells : Finset (GSem nD τ sig) := Finset.univ.map barEmb
abbrev scCells : Finset (GSem nD τ sig) := Finset.univ.map scEmb

variable (I : Ins F) (K : GSem nD τ sig → ℕ)

/-- What every device may consult: every cell's invariant, round 0 of every barrier cell reached, the levels. -/
def shared : sProp 𝕄 :=
  iprop((bigSep (barCells ∪ scCells) fun g => cellInv ER (Rd I) (K g) g) ∗ (bigSep barCells fun g => reached ER g 0) ∗ levAts L lv)
instance shared_persistent : BI.Persistent (shared I K) := by unfold shared; infer_instance

/-- With it, what device `c` knows once its region's cells are open. -/
def env (c : Dev nD) : sProp 𝕄 :=
  iprop(shared I K ∗ bigSep Finset.univ fun j : Fin 25 => reached ER ((c : Thread nD τ), osem j) 0)
instance env_persistent (c : Dev nD) : BI.Persistent (env I K c) := by unfold env; infer_instance

theorem bar_mem (c : Dev nD) : barC c ∈ (barCells ∪ scCells : Finset (GSem nD τ sig)) :=
  Finset.mem_union_left _ (Finset.mem_map_of_mem barEmb (Finset.mem_univ c))
theorem sc_mem (c : Dev nD) (j : Fin 25) : ((c : Thread nD τ), osem j) ∈ (barCells ∪ scCells : Finset (GSem nD τ sig)) :=
  Finset.mem_union_right _ (Finset.mem_map_of_mem scEmb (Finset.mem_univ (c, j)))
theorem osem_of : ∀ k : Fin 28, 4 ≤ k.val → osem ⟨k.val - 3, by omega⟩ = .dma k := by decide +kernel
theorem d_mem (c : Dev nD) (k : Fin 28) (h : 4 ≤ k.val) : dC c k ∈ (barCells ∪ scCells : Finset (GSem nD τ sig)) := by
  rw [dC, ← osem_of k h]; exact sc_mem c _
theorem fin_mem (c : Dev nD) : finC c ∈ (barCells ∪ scCells : Finset (GSem nD τ sig)) := sc_mem c 0

theorem shared_inv {g : GSem nD τ sig} (h : g ∈ (barCells ∪ scCells : Finset (GSem nD τ sig))) :
    shared I K ⊢ cellInv ER (Rd I) (K g) g := by
  unfold shared; iintro ⟨H, -, -⟩
  iapply (show (bigSep (barCells ∪ scCells) fun g => (cellInv ER (Rd I) (K g) g : sProp 𝕄)) ⊢ cellInv ER (Rd I) (K g) g from bigSep_elim h)
  iexact H
theorem env_inv (c : Dev nD) {g : GSem nD τ sig} (h : g ∈ (barCells ∪ scCells : Finset (GSem nD τ sig))) :
    env I K c ⊢ cellInv ER (Rd I) (K g) g := by
  unfold env; iintro ⟨H, -⟩; iapply (shared_inv I K h); iexact H
theorem env_lev (c : Dev nD) : env I K c ⊢ (levAts L lv : sProp 𝕄) := by
  unfold env shared; iintro ⟨⟨-, -, H⟩, -⟩; iexact H
theorem env_bar (c d : Dev nD) : env I K c ⊢ (reached ER (barC d) 0 : sProp 𝕄) := by
  unfold env shared; iintro ⟨⟨-, H, -⟩, -⟩
  iapply (show (bigSep barCells fun g => (reached ER g 0 : sProp 𝕄)) ⊢ reached ER (barC d) 0
    from bigSep_elim (Finset.mem_map_of_mem barEmb (Finset.mem_univ d)))
  iexact H
theorem env_reached (c : Dev nD) (j : Fin 25) : env I K c ⊢ (reached ER ((c : Thread nD τ), osem j) 0 : sProp 𝕄) := by
  unfold env; iintro ⟨-, H⟩
  iapply (show (bigSep Finset.univ fun j : Fin 25 => (reached ER ((c : Thread nD τ), osem j) 0 : sProp 𝕄)) ⊢ _ from bigSep_elim (Finset.mem_univ j))
  iexact H
theorem env_dma (c : Dev nD) (k : Fin 28) (h : 4 ≤ k.val) : env I K c ⊢ (reached ER (dC c k) 0 : sProp 𝕄) := by
  rw [dC, ← osem_of k h]; exact env_reached I K c _
theorem env_fin (c : Dev nD) : env I K c ⊢ (reached ER (finC c) 0 : sProp 𝕄) := env_reached I K c 0

/-- What device `c` owes after `n` payments, whatever it waited on. -/
def debt (c : Dev nD) (n : ℕ) : sProp 𝕄 := iprop(∃ W, owes (c : Thread nD τ) (due c n) W)
/-- The right to the units of a copy of device `c` on DMA cell `k`. -/
def crd (c : Dev nD) (k : Fin 28) : sProp 𝕄 := cred (tallyAt (dC c k) () (amt k.val))
/-- Device `c`'s place at its cell of semaphore `sm`, `r` rounds done. -/
def place (c : Dev nD) (sm : SemLoc sig) (r : ℕ) : sProp 𝕄 := atPos ER ((c : Thread nD τ), sm) r ∅ 0
/-- The token of the copy crediting DMA cell `k` of device `c`. -/
def tok (c : Dev nD) (k : Fin 28) : sProp 𝕄 := dutyTok ER (dC c k) 0 true

section Steps

variable {sp sp' : Space} {s : Shape} {e : EltTy}

/-- A local copy crediting own cell `k`. -/
theorem step_copy (c : Dev nD) (k : Fin 28) (hk : 4 ≤ k.val) (src : Memref sig .tc sp s e) (dst : Memref sig .tc sp' s e)
    (hN : dst.view.dmaCredit = amt k.val) (q : PosShare TreeShare) (fs : Buf (Elt F) (src.view.loc (c : Thread nD τ)))
    (fd : Buf (Elt F) (dst.view.loc (c : Thread nD τ)))
    (hpay : iprop(mp c dst fullShare (dst.view.write (Elt F) fd (src.view.read (Elt F) fs) Finset.univ) ∗ mp c src q fs) ⊢ dPay I c k.val)
    {hsrc : src.view.WordExact} {hdst : dst.view.WordExact} {hsem : DmaTarget.Typed (nD := nD) (τ := τ) (p := (Proc.tc : Proc τ)) sp (.dma k) (.here dst)}
    {α : Type} {Q : α → sProp 𝕄} {kk : PUnit → Prog (TpuEff nD τ sig (Elt F) Λ₀ .tc) α} :
    env I K c ⊢ iprop(mp c src q fs -∗ mp c dst fullShare fd -∗ tok c k
      -∗ (crd c k -∗ wp frame (wpE (defs₀ (F := F)) 𝒱 (c : Thread nD τ) none) Set.univ (kk ⟨⟩) Q)
          -∗ wp frame (wpE (defs₀ (F := F)) 𝒱 (c : Thread nD τ) none) Set.univ (.op (.enqueueDma src (.here dst) (.dma k) hsrc hdst hsem) kk) Q) := by
  unfold tok crd
  iintro #HE Hs Hd Ht Hk
  iapply (Rounds.wp_copy_pointsTo 𝒱 ER (Rd I) (c : Thread nD τ) none (src := src) (dst := dst) (sem := .dma k) (q := q) (fs := fs)
      (fd := fd) (r := 0) (d := true) (κ := K (dC c k))
      (by rw [duties_dma I c k hk]; exact Finset.mem_singleton_self _) () (amt k.val) hN (amount_dma I c k true) hpay) $$ [Hs Hd Ht]
  · isplitr; · iapply (env_inv I K c (d_mem c k hk)); iexact HE
    isplitl [Hs]; · iexact Hs
    isplitl [Hd]; · iexact Hd
    isplitl [Ht]; · iexact Ht
    iapply (env_dma I K c k hk); iexact HE
  iexact Hk

/-- A copy into a neighbour, crediting own cell `k₁` and the neighbour's cell `k₂`: payment `n`. -/
theorem step_send (c c' d : Dev nD) (he : d = c') (k₁ k₂ : Fin 28) (h₁ : 4 ≤ k₁.val) (h₂ : 4 ≤ k₂.val) (hkk : amt k₁.val = amt k₂.val)
    (n : ℕ) (hO : due c n = due c (n + 1) + tallyAt (dC c' k₂) () (amt k₂.val))
    (src : Memref sig .tc sp s e) (dst : Memref sig .tc sp' s e)
    (hN : dst.view.dmaCredit = amt k₂.val) (q : PosShare TreeShare) (fs : Buf (Elt F) (src.view.loc (c : Thread nD τ)))
    (fd : Buf (Elt F) (dst.view.loc (c' : Thread nD τ)))
    (hpay₁ : mp c src q fs ⊢ dPay I c k₁.val)
    (hpay₂ : mp c' dst fullShare (dst.view.write (Elt F) fd (src.view.read (Elt F) fs) Finset.univ) ⊢ dPay I c' k₂.val)
    {hsc : dst.view.ref.isScScratch = false}
    {hsrc : src.view.WordExact} {hdst : dst.view.WordExact} {hsem : DmaTarget.Typed sp (.dma k₂) (.remote (Dev.tc d : Thread nD τ) dst (.dma k₁) hsc)}
    {α : Type} {Q : α → sProp 𝕄} {kk : PUnit → Prog (TpuEff nD τ sig (Elt F) Λ₀ .tc) α} :
    env I K c ⊢ iprop(mp c src q fs -∗ mp c' dst fullShare fd -∗ debt c n -∗ tok c k₁ -∗ tok c' k₂ -∗ reached ER (dC c' k₂) 0
      -∗ ((crd c k₁ ∗ debt c (n + 1)) -∗ wp frame (wpE (defs₀ (F := F)) 𝒱 (c : Thread nD τ) none) Set.univ (kk ⟨⟩) Q)
          -∗ wp frame (wpE (defs₀ (F := F)) 𝒱 (c : Thread nD τ) none) Set.univ
            (.op (.enqueueDma src (.remote (Dev.tc d : Thread nD τ) dst (.dma k₁) hsc) (.dma k₂) hsrc hdst hsem) kk) Q) := by
  subst he
  unfold tok crd debt
  iintro #HE Hs Hd ⟨%W, HO⟩ Ht₁ Ht₂ #HR Hk
  iapply (Rounds.wp_send_pointsTo 𝒱 ER (Rd I) (c : Thread nD τ) none (c' := (d : Thread nD τ)) (src := src) (dst := dst)
      (sS := .dma k₁) (sem := .dma k₂) (q := q) (fs := fs) (κ₁ := K (dC c k₁)) (κ₂ := K (dC d k₂))
      (r₁ := 0) (r₂ := 0) (d₁ := true) (d₂ := true) (fd := fd)
      (by rw [duties_dma I c k₁ h₁]; exact Finset.mem_singleton_self _) (by rw [duties_dma I d k₂ h₂]; exact Finset.mem_singleton_self _)
      () () (amt k₂.val) hN ((amount_dma I c k₁ true).trans hkk) (amount_dma I d k₂ true) (due c (n + 1)) hO (W := W) hpay₁ hpay₂)
    $$ [Hs Hd HO Ht₁ Ht₂]
  · isplitr; · iapply (env_inv I K c (d_mem c k₁ h₁)); iexact HE
    isplitr; · iapply (env_inv I K c (d_mem d k₂ h₂)); iexact HE
    isplitl [Hs]; · iexact Hs
    isplitl [Hd]; · iexact Hd
    isplitl [HO]; · iexact HO
    isplitl [Ht₁]; · iexact Ht₁
    isplitr; · iapply (env_dma I K c k₁ h₁); iexact HE
    isplitl [Ht₂]; · iexact Ht₂
    iexact HR
  iintro ⟨Hc, HO⟩
  iapply Hk
  isplitl [Hc]; · rw [hkk]; iexact Hc
  iexists W; iexact HO

/-- A wait for the copy on own cell `k`, what is still owed at a higher level. -/
theorem step_wait (c : Dev nD) (k : Fin 28) (hk : 4 ≤ k.val) (n m : ℕ) (hH : HighFrom n m) (hl : lvS (.dma k) < m)
    (src : Memref sig .tc sp s e) (dst : Memref sig .tc sp' s e)
    (hN : dst.view.dmaCredit = amt k.val)
    {hsrc : src.view.WordExact} {hdst : dst.view.WordExact}
    {α : Type} {Q : α → sProp 𝕄} {kk : PUnit → Prog (TpuEff nD τ sig (Elt F) Λ₀ .tc) α} :
    env I K c ⊢ iprop(crd c k -∗ debt c n -∗ place c (.dma k) 0
      -∗ ((debt c n ∗ place c (.dma k) 1 ∗ dPay I c k.val) -∗ wp frame (wpE (defs₀ (F := F)) 𝒱 (c : Thread nD τ) none) Set.univ (kk ⟨⟩) Q)
          -∗ wp frame (wpE (defs₀ (F := F)) 𝒱 (c : Thread nD τ) none) Set.univ (.op (.waitDma2 k src dst hsrc hdst) kk) Q) := by
  unfold crd debt place
  rw [← hN]
  iintro #HE Hc ⟨%W, HO⟩ Ha Hk
  iapply (Rounds.wp_wait_rest_token 𝒱 ER (Rd I) (c : Thread nD τ) none (κ := K (dC c k))
      (wpE_waitDma2_eq (src := src) (dst := dst) 𝒱 (c : Thread nD τ) none Set.univ) (Set.mem_univ _) () (O := due c n) (W := W) (R := 0) (m := 0) (T := ∅)
      ((Nat.zero_add _).trans (hN.trans (expect_dma I c k hk).symm))) $$ [Hc HO Ha]
  · isplitr; · iapply (env_inv I K c (d_mem c k hk)); iexact HE
    isplitl [Hc]; · iexact Hc
    isplitl [HO]; · iexact HO
    isplitr; · iapply (mayWait c (.dma k) n m hH hl); iapply (env_lev I K c); iexact HE
    iexact Ha
  iintro ⟨HO, Ha, -, Hp⟩
  iapply Hk
  isplitl [HO]; · iexists _; iexact HO
  isplitl [Ha]; · iexact Ha
  rw [← rest_dma I c k hk]; iexact Hp

/-- One unit on a regular semaphore of a neighbour: payment `n`. -/
theorem step_signal (c c' d : Dev nD) (he : d = c') (sm : Sem sig) (b : Bool) (n : ℕ)
    (hm : ((c' : Thread nD τ), SemLoc.reg sm) ∈ (barCells ∪ scCells : Finset (GSem nD τ sig)))
    (hO : due c n = due c (n + 1) + tallyAt ((c' : Thread nD τ), .reg sm) () 1)
    {α : Type} {Q : α → sProp 𝕄} {kk : PUnit → Prog (TpuEff nD τ sig (Elt F) Λ₀ .tc) α} :
    env I K c ⊢ iprop(debt c n -∗ dutyTok ER ((c' : Thread nD τ), .reg sm) 0 b -∗ (Rd I).payload ((c' : Thread nD τ), .reg sm) 0 b
        -∗ reached ER ((c' : Thread nD τ), .reg sm) 0
      -∗ (debt c (n + 1) -∗ wp frame (wpE (defs₀ (F := F)) 𝒱 (c : Thread nD τ) none) Set.univ (kk ⟨⟩) Q)
          -∗ wp frame (wpE (defs₀ (F := F)) 𝒱 (c : Thread nD τ) none) Set.univ (.op (.semSignal (Dev.tc d : Thread nD τ) sm 1) kk) Q) := by
  subst he
  unfold debt
  iintro #HE ⟨%W, HO⟩ Ht Hp #HR Hk
  iapply (Rounds.wp_signal 𝒱 ER (Rd I) (c : Thread nD τ) none (dst := (d : Thread nD τ)) (sem := sm) (r := 0) (d := b)
      (κ := K ((d : Thread nD τ), .reg sm))
      (by rw [duties_reg]; exact Finset.mem_univ _) (amount_reg I d sm b) () (due c (n + 1)) hO (W := W)) $$ [HO Ht Hp]
  · isplitr; · iapply (env_inv I K c hm); iexact HE
    isplitl [HO]; · iexact HO
    isplitl [Ht]; · iexact Ht
    isplitl [Hp]; · iexact Hp
    iexact HR
  iintro HO
  iapply Hk
  iexists W; iexact HO

/-- A wait for both units of a regular semaphore. -/
theorem step_await (c : Dev nD) (sm : Sem sig) (n : ℕ)
    (hw : env I K c ⊢ (MayWait (c : Thread nD τ) (.reg sm) () (due c n) : sProp 𝕄))
    (hm : ((c : Thread nD τ), SemLoc.reg sm) ∈ (barCells ∪ scCells : Finset (GSem nD τ sig)))
    {α : Type} {Q : α → sProp 𝕄} {kk : PUnit → Prog (TpuEff nD τ sig (Elt F) Λ₀ .tc) α} :
    env I K c ⊢ iprop(cred (tallyAt ((c : Thread nD τ), .reg sm) () 2) -∗ debt c n -∗ place c (.reg sm) 0
      -∗ ((debt c n ∗ place c (.reg sm) 1
            ∗ bigSep ((Rd I).duties ((c : Thread nD τ), .reg sm) 0 \ ∅) fun d => (Rd I).payload ((c : Thread nD τ), .reg sm) 0 d)
            -∗ wp frame (wpE (defs₀ (F := F)) 𝒱 (c : Thread nD τ) none) Set.univ (kk ⟨⟩) Q)
          -∗ wp frame (wpE (defs₀ (F := F)) 𝒱 (c : Thread nD τ) none) Set.univ (.op (.semWait sm 2) kk) Q) := by
  unfold debt place
  iintro #HE Hc ⟨%W, HO⟩ Ha Hk
  iapply (Rounds.wp_wait_rest_token 𝒱 ER (Rd I) (c : Thread nD τ) none (κ := K ((c : Thread nD τ), .reg sm))
      (wpE_semWait_eq 𝒱 (c : Thread nD τ) none Set.univ) (Set.mem_univ _) () (O := due c n) (W := W) (R := 0) (m := 0) (T := ∅)
      ((Nat.zero_add _).trans (expect_reg I c sm).symm)) $$ [Hc HO Ha]
  · isplitr; · iapply (env_inv I K c hm); iexact HE
    isplitl [Hc]; · iexact Hc
    isplitl [HO]; · iexact HO
    isplitr; · iapply hw; iexact HE
    iexact Ha
  iintro ⟨HO, Ha, -, Hp⟩
  iapply Hk
  isplitl [HO]; · iexists _; iexact HO
  isplitl [Ha]; · iexact Ha
  iexact Hp

/-- A piece of the program that has returned. -/
theorem step_ret (c : Dev nD) {α : Type} {Q : α → sProp 𝕄} (a : α) :
    Q a ⊢ wp frame (wpE (defs₀ (F := F)) 𝒱 (c : Thread nD τ) none) Set.univ (.ret a) Q := by
  rw [wp_ret]; iintro H; imodintro; iexact H

/-- A load, any share of the view's elements it reads held. -/
theorem step_load (c : Dev nD) (m : Memref sig .tc .vmem s e) {r : LoadRect s} (S : Finset m.view.ty.Idx) (hS : m.view.setOn r.set ⊆ S)
    (q : PosShare TreeShare) (f : Buf (Elt F) (m.view.loc (c : Thread nD τ))) {hl : m.view.LoadsAt r}
    {α : Type} {Q : α → sProp 𝕄} {kk : (r.shape.Idx → Elt F e) → Prog (TpuEff nD τ sig (Elt F) Λ₀ .tc) α} :
    iprop(m.view.loc (c : Thread nD τ) ↦[S]{q} f) ⊢ iprop(((m.view.loc (c : Thread nD τ) ↦[S]{q} f)
        -∗ wp frame (wpE (defs₀ (F := F)) 𝒱 (c : Thread nD τ) none) Set.univ (kk (m.view.readAt (Elt F) r f)) Q)
      -∗ wp frame (wpE (defs₀ (F := F)) 𝒱 (c : Thread nD τ) none) Set.univ (.op (.load m r hl) kk) Q) :=
  wp_load 𝒱 (c : Thread nD τ) none Set.univ hS

/-- A store into a buffer held whole. -/
theorem step_store (c : Dev nD) (m : Memref sig .tc .vmem s e) (r : Rect s) (w : r.shape.Idx → Elt F e)
    (f : Buf (Elt F) (m.view.loc (c : Thread nD τ)))
    {hx : (m.access r).Stores Finset.univ} {hm : (Finset.univ : Finset r.shape.Idx) = Finset.univ ∨ ∀ a, r.stride a = 1}
    {α : Type} {Q : α → sProp 𝕄} {kk : PUnit → Prog (TpuEff nD τ sig (Elt F) Λ₀ .tc) α} :
    iprop(m.view.loc (c : Thread nD τ) ↦{fullShare} f) ⊢ iprop(((m.view.loc (c : Thread nD τ) ↦{fullShare} ((m.access r).write (Elt F) f w Finset.univ))
        -∗ wp frame (wpE (defs₀ (F := F)) 𝒱 (c : Thread nD τ) none) Set.univ (kk ⟨⟩) Q)
      -∗ wp frame (wpE (defs₀ (F := F)) 𝒱 (c : Thread nD τ) none) Set.univ (.op (.store m r w Finset.univ hx hm) kk) Q) :=
  wp_store 𝒱 (c : Thread nD τ) none Set.univ (m := m) (r := r) (w := w) (f := f) (Finset.subset_univ _)

end Steps

end Cert.Attn

end
-- ==== Proof.Geo.lean ====
/- How the buffers divide: halves of the landing buffers, the four slots, and what a whole copy leaves. -/
module

public import proofs.«01_k».proof.Proof.Rules

@[expose] public section

set_option maxRecDepth 16384

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The rows of a half of a buffer of Wq's shape. -/
theorem qLo_mem (i : S768x512.Idx) : i ∈ (Rect.unit (s := S768x512) ![0, 0] S384x512.size (by decide)).set ↔ (i 0).val < 384 := by
  rw [Rect.mem_set_unit, Fin.forall_fin_two]
  have h1 : (i 1).val < 512 := (i 1).isLt
  show (0 ≤ (i 0).val ∧ (i 0).val < 0 + 384) ∧ (0 ≤ (i 1).val ∧ (i 1).val < 0 + 512) ↔ _
  omega
theorem qHi_mem (i : S768x512.Idx) : i ∈ (Rect.unit (s := S768x512) ![384, 0] S384x512.size (by decide)).set ↔ ¬ (i 0).val < 384 := by
  rw [Rect.mem_set_unit, Fin.forall_fin_two]
  have h1 : (i 1).val < 512 := (i 1).isLt
  have h0 : (i 0).val < 768 := (i 0).isLt
  show (384 ≤ (i 0).val ∧ (i 0).val < 384 + 384) ∧ (0 ≤ (i 1).val ∧ (i 1).val < 0 + 512) ↔ _
  omega
theorem oLo_mem (i : S512x768.Idx) : i ∈ (Rect.unit (s := S512x768) ![0, 0] S256x768.size (by decide)).set ↔ (i 0).val < 256 := by
  rw [Rect.mem_set_unit, Fin.forall_fin_two]
  have h1 : (i 1).val < 768 := (i 1).isLt
  show (0 ≤ (i 0).val ∧ (i 0).val < 0 + 256) ∧ (0 ≤ (i 1).val ∧ (i 1).val < 0 + 768) ↔ _
  omega
theorem oHi_mem (i : S512x768.Idx) : i ∈ (Rect.unit (s := S512x768) ![256, 0] S256x768.size (by decide)).set ↔ ¬ (i 0).val < 256 := by
  rw [Rect.mem_set_unit, Fin.forall_fin_two]
  have h1 : (i 1).val < 768 := (i 1).isLt
  have h0 : (i 0).val < 512 := (i 0).isLt
  show (256 ≤ (i 0).val ∧ (i 0).val < 256 + 256) ∧ (0 ≤ (i 1).val ∧ (i 1).val < 0 + 768) ↔ _
  omega

abbrev rQlo : Rect S768x512 := Rect.unit (s := S768x512) ![0, 0] S384x512.size (by decide)
abbrev rQhi : Rect S768x512 := Rect.unit (s := S768x512) ![384, 0] S384x512.size (by decide)
abbrev rOlo : Rect S512x768 := Rect.unit (s := S512x768) ![0, 0] S256x768.size (by decide)
abbrev rOhi : Rect S512x768 := Rect.unit (s := S512x768) ![256, 0] S256x768.size (by decide)
abbrev rSlot (j : Fin 4) : Rect S4x2x512x512 := Rect.unit (s := S4x2x512x512) ![j.val, 0, 0, 0] S1x2x512x512.size (slot_inb j)

theorem q_halves : rQlo.set ∪ rQhi.set = (Finset.univ : Finset S768x512.Idx) := by
  ext i; simp only [Finset.mem_union, qLo_mem, qHi_mem, Finset.mem_univ, iff_true]; exact Classical.em _
theorem q_disj : Disjoint rQlo.set rQhi.set := by
  rw [Finset.disjoint_left]; intro i; rw [qLo_mem, qHi_mem]; exact fun h h' => h' h
theorem o_halves : rOlo.set ∪ rOhi.set = (Finset.univ : Finset S512x768.Idx) := by
  ext i; simp only [Finset.mem_union, oLo_mem, oHi_mem, Finset.mem_univ, iff_true]; exact Classical.em _
theorem o_disj : Disjoint rOlo.set rOhi.set := by
  rw [Finset.disjoint_left]; intro i; rw [oLo_mem, oHi_mem]; exact fun h h' => h' h

/-- Slot `j` is the positions whose first coordinate is `j`. -/
theorem slot_mem (j : Fin 4) (i : S4x2x512x512.Idx) : i ∈ (rSlot j).set ↔ (i 0).val = j.val := by
  rw [Rect.mem_set_unit]
  have h1 : (i 1).val < 2 := (i 1).isLt
  have h2 : (i 2).val < 512 := (i 2).isLt
  have h3 : (i 3).val < 512 := (i 3).isLt
  constructor
  · intro h
    have := h 0
    have e : j.val ≤ (i 0).val ∧ (i 0).val < j.val + 1 := this
    omega
  · intro h a
    fin_cases a
    · show j.val ≤ (i 0).val ∧ (i 0).val < j.val + 1
      omega
    · show 0 ≤ (i 1).val ∧ (i 1).val < 0 + 2
      omega
    · show 0 ≤ (i 2).val ∧ (i 2).val < 0 + 512
      omega
    · show 0 ≤ (i 3).val ∧ (i 3).val < 0 + 512
      omega

theorem slots_all : (rSlot 0).set ∪ ((rSlot 1).set ∪ ((rSlot 2).set ∪ (rSlot 3).set)) = (Finset.univ : Finset S4x2x512x512.Idx) := by
  ext i; simp only [Finset.mem_union, slot_mem, Finset.mem_univ, iff_true]
  have h : (i 0).val < 4 := (i 0).isLt
  show (i 0).val = 0 ∨ (i 0).val = 1 ∨ (i 0).val = 2 ∨ (i 0).val = 3
  omega
theorem slot_disj {j k : Fin 4} (h : j ≠ k) : Disjoint (rSlot j).set (rSlot k).set := by
  rw [Finset.disjoint_left]; intro i; rw [slot_mem, slot_mem]; exact fun h₁ h₂ => h (Fin.ext (h₁.symm.trans h₂))

theorem set_slot_k (j : Fin 4) : (slot kM j).view.set = (rSlot j).set := by
  exact (View.set_reshape _ _).trans (View.set_slice_whole cc0_scratch6 (rSlot j))
theorem set_slot_v (j : Fin 4) : (slot vM j).view.set = (rSlot j).set := by
  exact (View.set_reshape _ _).trans (View.set_slice_whole cc0_scratch7 (rSlot j))

theorem half_qO_lo : (qLo qO).view.set = rQlo.set := View.set_slice_whole _ _
theorem half_qO_hi : (qHi qO).view.set = rQhi.set := View.set_slice_whole _ _
theorem half_oO_lo : (oLo oO).view.set = rOlo.set := View.set_slice_whole _ _
theorem half_oO_hi : (oHi oO).view.set = rOhi.set := View.set_slice_whole _ _

/-- The second landing buffers are their halves. -/
theorem qO_halves (c : Dev nD) (f : Buf (Elt F) ((qO).view.loc (c : Thread nD τ))) :
    (mp c qO fullShare f : sProp 𝕄) ⊣⊢ iprop(mp c (qLo qO) fullShare f ∗ mp c (qHi qO) fullShare f) := by
  unfold mp
  rw [half_qO_lo, half_qO_hi, View.set_whole, ← q_halves]
  exact pointsTo_union q_disj
theorem oO_halves (c : Dev nD) (f : Buf (Elt F) ((oO).view.loc (c : Thread nD τ))) :
    (mp c oO fullShare f : sProp 𝕄) ⊣⊢ iprop(mp c (oLo oO) fullShare f ∗ mp c (oHi oO) fullShare f) := by
  unfold mp
  rw [half_oO_lo, half_oO_hi, View.set_whole, ← o_halves]
  exact pointsTo_union o_disj

/-- The scratches of four slots are their slots. -/
theorem kM_slots (c : Dev nD) (f : Buf (Elt F) ((kM).view.loc (c : Thread nD τ))) :
    (mp c kM fullShare f : sProp 𝕄) ⊣⊢ iprop(mp c (slot kM 0) fullShare f ∗ mp c (slot kM 1) fullShare f
      ∗ mp c (slot kM 2) fullShare f ∗ mp c (slot kM 3) fullShare f) := by
  unfold mp
  rw [set_slot_k 0, set_slot_k 1, set_slot_k 2, set_slot_k 3, View.set_whole, ← slots_all]
  have d01 := slot_disj (j := 0) (k := 1) (by decide)
  have d02 := slot_disj (j := 0) (k := 2) (by decide)
  have d03 := slot_disj (j := 0) (k := 3) (by decide)
  have d12 := slot_disj (j := 1) (k := 2) (by decide)
  have d13 := slot_disj (j := 1) (k := 3) (by decide)
  have d23 := slot_disj (j := 2) (k := 3) (by decide)
  refine (pointsTo_union (Finset.disjoint_union_right.mpr ⟨d01, Finset.disjoint_union_right.mpr ⟨d02, d03⟩⟩)).trans ?_
  refine sep_congr_right ((pointsTo_union (Finset.disjoint_union_right.mpr ⟨d12, d13⟩)).trans ?_)
  exact sep_congr_right (pointsTo_union d23)
theorem vM_slots (c : Dev nD) (f : Buf (Elt F) ((vM).view.loc (c : Thread nD τ))) :
    (mp c vM fullShare f : sProp 𝕄) ⊣⊢ iprop(mp c (slot vM 0) fullShare f ∗ mp c (slot vM 1) fullShare f
      ∗ mp c (slot vM 2) fullShare f ∗ mp c (slot vM 3) fullShare f) := by
  unfold mp
  rw [set_slot_v 0, set_slot_v 1, set_slot_v 2, set_slot_v 3, View.set_whole, ← slots_all]
  have d01 := slot_disj (j := 0) (k := 1) (by decide)
  have d02 := slot_disj (j := 0) (k := 2) (by decide)
  have d03 := slot_disj (j := 0) (k := 3) (by decide)
  have d12 := slot_disj (j := 1) (k := 2) (by decide)
  have d13 := slot_disj (j := 1) (k := 3) (by decide)
  have d23 := slot_disj (j := 2) (k := 3) (by decide)
  refine (pointsTo_union (Finset.disjoint_union_right.mpr ⟨d01, Finset.disjoint_union_right.mpr ⟨d02, d03⟩⟩)).trans ?_
  refine sep_congr_right ((pointsTo_union (Finset.disjoint_union_right.mpr ⟨d12, d13⟩)).trans ?_)
  exact sep_congr_right (pointsTo_union d23)

/-- What is left of a view's elements when part of it is lent. -/
abbrev mrest {sp : Space} {s : Shape} {e : EltTy} (c : Dev nD) (M : Memref sig .tc sp s e) (S : Finset M.view.ty.Idx)
    (q : PosShare TreeShare) (f : Buf (Elt F) (M.view.loc (c : Thread nD τ))) : sProp 𝕄 :=
  M.view.loc (c : Thread nD τ) ↦[M.view.set \ S]{q} f

theorem lend {sp : Space} {s : Shape} {e : EltTy} (c : Dev nD) (M : Memref sig .tc sp s e) (S : Finset M.view.ty.Idx)
    (hS : S ⊆ M.view.set) (q : PosShare TreeShare) (f : Buf (Elt F) (M.view.loc (c : Thread nD τ))) :
    (mp c M q f : sProp 𝕄) ⊣⊢ iprop((M.view.loc (c : Thread nD τ) ↦[S]{q} f) ∗ (M.view.loc (c : Thread nD τ) ↦[M.view.set \ S]{q} f)) :=
  pointsTo_split_subset hS

/-- A share is its two halves. -/
theorem share_two {ℓ : Loc nD τ sig} (S : Finset (Idx ℓ)) (q : PosShare TreeShare) (f : Buf (Elt F) ℓ) :
    ((ℓ ↦[S]{q} f) : sProp 𝕄) ⊣⊢ iprop((ℓ ↦[S]{q.left} f) ∗ (ℓ ↦[S]{q.right} f)) :=
  pointsTo_share (by rw [PosShare.left_op_right]; exact Part.mem_some _)

/-- A copy between views that read one contents alike leaves that contents. -/
theorem land_same {sp sp' : Space} {s : Shape} {e : EltTy} (c c' : Dev nD) (src : Memref sig .tc sp s e) (dst : Memref sig .tc sp' s e)
    (fs : Buf (Elt F) (src.view.loc (c : Thread nD τ))) (fd g : Buf (Elt F) (dst.view.loc (c' : Thread nD τ)))
    (h : ∀ x, dst.view.read (Elt F) g x = src.view.read (Elt F) fs x) :
    (mp c' dst fullShare (dst.view.write (Elt F) fd (src.view.read (Elt F) fs) Finset.univ) : sProp 𝕄) ⊢ mp c' dst fullShare g :=
  Entails.of_eq (pointsTo_congr (write_read_same src.view dst.view fd fs g h))

/-- Slot `j` in the form the loads read it: the elements under its rectangle. -/
abbrev slotW {M : Memref sig .tc .vmem S4x2x512x512 .bf16} (c : Dev nD) (off : Fin 4 → ℕ)
    (inb : ∀ a, off a + S1x2x512x512.size a ≤ S4x2x512x512.size a) (f : Buf (Elt F) (M.view.loc (c : Thread nD τ))) : sProp 𝕄 :=
  M.view.loc (c : Thread nD τ) ↦[M.view.setOn (Rect.unit (s := S4x2x512x512) off S1x2x512x512.size inb).set]{fullShare} f

theorem slot_form (M : Memref sig .tc .vmem S4x2x512x512 .bf16) (c : Dev nD) (j : Fin 4) (f : Buf (Elt F) (M.view.loc (c : Thread nD τ))) :
    (mp c (slot M j) fullShare f : sProp 𝕄) = slotW (M := M) c ![j.val, 0, 0, 0] (slot_inb j) f := by
  have e : (slot M j).view.set = M.view.setOn (rSlot j).set := (View.set_reshape _ _).trans (View.set_slice _ _)
  unfold mp slotW
  rw [← e]

end Cert.Attn

end
-- ==== Proof.State.lean ====
/- What a device holds between the pieces of the body that copy, signal and wait. -/
module

public import proofs.«01_k».proof.Proof.Geo
public import proofs.«01_k».proof.Proof.Gen.KernelIdeal.Skeleton

@[expose] public section

set_option maxRecDepth 16384

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- A piece of the body on the buffers and semaphores the call passes. -/
abbrev atArgs {β : Type 1}
    (f : (a0 : Memref sig .tc .vmem S2x512x768 .bf16) → a0.IsWhole → (a1 : Memref sig .tc .vmem S768x512 .bf16) → a1.IsWhole →
      (a2 : Memref sig .tc .hbm S2x512x2048 .bf16) → a2.IsWhole → (a3 : Memref sig .tc .hbm S2x512x2048 .bf16) → a3.IsWhole →
      (a4 : Memref sig .tc .vmem S512x768 .bf16) → a4.IsWhole → (a5 : Memref sig .tc .vmem S2x512x768 .f32) → a5.IsWhole →
      (a6 : Memref sig .tc .vmem S768x512 .bf16) → a6.IsWhole → (a7 : Memref sig .tc .vmem S768x512 .bf16) → a7.IsWhole →
      (a8 : Memref sig .tc .vmem S768x512 .bf16) → a8.IsWhole → (a9 : Memref sig .tc .vmem S512x768 .bf16) → a9.IsWhole →
      (a10 : Memref sig .tc .vmem S512x768 .bf16) → a10.IsWhole → (a11 : Memref sig .tc .vmem S512x768 .bf16) → a11.IsWhole →
      (a12 : Memref sig .tc .vmem S4x2x512x512 .bf16) → a12.IsWhole → (a13 : Memref sig .tc .vmem S4x2x512x512 .bf16) → a13.IsWhole →
      DmaSems sig S4 → DmaSems sig S4 → DmaSems sig S4 → DmaSems sig S4 → DmaSems sig S4 → DmaSems sig S4 → Sems sig S_ → β) : β :=
  f xM (Memref.isWhole_whole _) wqM (Memref.isWhole_whole _) khM (Memref.isWhole_whole _) vhM (Memref.isWhole_whole _)
    woM (Memref.isWhole_whole _) outM (Memref.isWhole_whole _) qL (Memref.isWhole_whole _) qR (Memref.isWhole_whole _)
    qO (Memref.isWhole_whole _) oL (Memref.isWhole_whole _) oR (Memref.isWhole_whole _) oO (Memref.isWhole_whole _)
    kM (Memref.isWhole_whole _) vM (Memref.isWhole_whole _) cc0_scratch8 cc0_scratch9 cc0_scratch10 cc0_scratch11 cc0_scratch12
    cc0_scratch13 cc0_scoped0

variable (I : Ins F) (K : GSem nD τ sig → ℕ)

/-- What a copy into slot `j` leaves is its cell's payload. -/
theorem pay_k (c : Dev nD) (j : Fin 4) (fd : Buf (Elt F) ((slot kM j).view.loc (c : Thread nD τ))) :
    iprop(mp c (slot kM j) fullShare ((slot kM j).view.write (Elt F) fd ((hcol khM c j).view.read (Elt F) (I.kh c)) Finset.univ)
      ∗ mp c (hcol khM c j) (q4 j) (I.kh c)) ⊢ dPay I c (20 + j.val) := by
  refine (sep_mono_left (Entails.of_eq (pointsTo_congr (land_k c j fd (I.kh c))))).trans ?_
  fin_cases j <;> exact Entails.refl _
theorem pay_v (c : Dev nD) (j : Fin 4) (fd : Buf (Elt F) ((slot vM j).view.loc (c : Thread nD τ))) :
    iprop(mp c (slot vM j) fullShare ((slot vM j).view.write (Elt F) fd ((hcol vhM c j).view.read (Elt F) (I.vh c)) Finset.univ)
      ∗ mp c (hcol vhM c j) (q4 j) (I.vh c)) ⊢ dPay I c (24 + j.val) := by
  refine (sep_mono_left (Entails.of_eq (pointsTo_congr (land_v c j fd (I.vh c))))).trans ?_
  fin_cases j <;> exact Entails.refl _

/-! ## Bundles -/

/-- A whole buffer held at a share. -/
abbrev mw {sp : Space} {s : Shape} {e : EltTy} (c : Dev nD) (M : Memref sig .tc sp s e) (q : PosShare TreeShare)
    (f : Buf (Elt F) (M.view.loc (c : Thread nD τ))) : sProp 𝕄 :=
  M.view.loc (c : Thread nD τ) ↦{q} f

/-- The semaphores of slot `j`'s copies of K and V. -/
abbrev kS (j : Fin 4) : Fin 28 := ⟨20 + j.val, by omega⟩
abbrev vS (j : Fin 4) : Fin 28 := ⟨24 + j.val, by omega⟩

/-- What the copies into slot `j` need: the columns they read, the slots, their duties' tokens, and the places kept for
    the waits. -/
def need (c : Dev nD) (j : Fin 4) : sProp 𝕄 :=
  iprop(mp c (hcol khM c j) (q4 j) (I.kh c) ∗ mp c (hcol vhM c j) (q4 j) (I.vh c) ∗ mpAny c (slot kM j) ∗ mpAny c (slot vM j)
    ∗ tok c (kS j) ∗ tok c (vS j) ∗ place c (.dma (kS j)) 0 ∗ place c (.dma (vS j)) 0)
/-- Slot `j`'s copies under way. -/
def tick (c : Dev nD) (j : Fin 4) : sProp 𝕄 :=
  iprop(crd c (kS j) ∗ crd c (vS j) ∗ place c (.dma (kS j)) 0 ∗ place c (.dma (vS j)) 0)
/-- Slot `j`'s copies done: the shares of the sources back and the semaphores' rounds over. -/
def done (c : Dev nD) (j : Fin 4) : sProp 𝕄 :=
  iprop(mp c (hcol khM c j) (q4 j) (I.kh c) ∗ mp c (hcol vhM c j) (q4 j) (I.vh c)
    ∗ place c (.dma (kS j)) 1 ∗ place c (.dma (vS j)) 1)

/-- The buffers device `c` hands its left and its right neighbour with the barrier's units. -/
def lends (c : Dev nD) : sProp 𝕄 :=
  iprop((mpAny c qL ∗ mpAny c oL ∗ mpAny c (qHi qO) ∗ mpAny c (oHi oO)) ∗ (mpAny c qR ∗ mpAny c oR ∗ mpAny c (qLo qO) ∗ mpAny c (oLo oO)))

def N4 (c : Dev nD) : sProp 𝕄 :=
  iprop(debt c 0 ∗ place c (.reg 0) 0 ∗ cred (tallyAt (barC c) () 2)
    ∗ dutyTok ER (barC (lt c)) 0 false ∗ dutyTok ER (barC (rt c)) 0 true ∗ lends c
    ∗ mp c wqM qA (I.wq c) ∗ mp c wqM qB (I.wq c) ∗ mp c woM qA (I.wo c)
    ∗ tok c 4 ∗ tok c 5 ∗ tok c 6 ∗ tok (rt c) 8 ∗ tok (lt c) 9 ∗ tok (rt c) 10)

/-- What the barrier gave for the second phase and for the final signals. -/
def G2 (c : Dev nD) : sProp 𝕄 :=
  iprop(mpAny (rt c) (qHi qO) ∗ mpAny (rt c) (oHi oO) ∗ mpAny (lt c) (qLo qO) ∗ mpAny (lt c) (oLo oO)
    ∗ reached ER (dC (rt c) 17) 0 ∗ reached ER (dC (rt c) 19) 0 ∗ reached ER (dC (lt c) 16) 0 ∗ reached ER (dC (lt c) 18) 0
    ∗ reached ER (finC (rt c)) 0 ∗ reached ER (finC (lt c)) 0)

def D4 (c : Dev nD) : sProp 𝕄 :=
  iprop(debt c 5 ∗ place c (.reg 0) 1 ∗ crd c 4 ∗ crd c 5 ∗ crd c 6 ∗ mpAny (lt c) oR ∗ reached ER (dC (lt c) 11) 0 ∗ G2 c)
def N5 (c : Dev nD) : sProp 𝕄 := iprop(mp c woM qB (I.wo c) ∗ tok c 7 ∗ tok (lt c) 11)
def D5 (c : Dev nD) : sProp 𝕄 :=
  iprop(debt c 6 ∗ place c (.reg 0) 1 ∗ crd c 4 ∗ crd c 5 ∗ crd c 6 ∗ crd c 7 ∗ G2 c)

def N14 (c : Dev nD) : sProp 𝕄 :=
  iprop((crd c 8 ∗ crd c 9 ∗ crd c 10 ∗ crd c 11) ∗ (place c (.dma 8) 0 ∗ place c (.dma 9) 0 ∗ place c (.dma 10) 0 ∗ place c (.dma 11) 0)
    ∗ (tok c 12 ∗ tok c 13 ∗ tok c 14 ∗ tok c 15) ∗ (tok (lt c) 16 ∗ tok (rt c) 17 ∗ tok (lt c) 18 ∗ tok (rt c) 19))

/-- The first phase's places and the rests of the buffers the second phase's sends read. -/
def kept (c : Dev nD) : sProp 𝕄 :=
  iprop(place c (.reg 0) 1 ∗ (place c (.dma 8) 1 ∗ place c (.dma 9) 1 ∗ place c (.dma 10) 1 ∗ place c (.dma 11) 1)
    ∗ mrest c qR (qLo qR).view.set qA (I.wq (rt c)))
/-- After the first of the second phase's sends. -/
def D14 (c : Dev nD) : sProp 𝕄 :=
  iprop(debt c 7 ∗ (crd c 4 ∗ crd c 5 ∗ crd c 6 ∗ crd c 7 ∗ crd c 12)
    ∗ (mpAny (rt c) (qHi qO) ∗ mpAny (rt c) (oHi oO) ∗ mpAny (lt c) (oLo oO)
      ∗ reached ER (dC (rt c) 17) 0 ∗ reached ER (dC (rt c) 19) 0 ∗ reached ER (dC (lt c) 18) 0
      ∗ reached ER (finC (rt c)) 0 ∗ reached ER (finC (lt c)) 0)
    ∗ (tok c 13 ∗ tok c 14 ∗ tok c 15) ∗ (tok (rt c) 17 ∗ tok (lt c) 18 ∗ tok (rt c) 19)
    ∗ kept I c
    ∗ (mp c qL fullShare (I.wq (lt c)) ∗ mp c qR fullShare.right (I.wq (rt c)) ∗ mp c oL fullShare (I.wo (lt c)) ∗ mp c oR fullShare (I.wo (rt c))))
/-- After the last send. -/
def D15 (c : Dev nD) : sProp 𝕄 :=
  iprop(((crd c 4 ∗ crd c 5 ∗ crd c 6 ∗ crd c 7) ∗ (crd c 12 ∗ crd c 13 ∗ crd c 14 ∗ crd c 15))
    ∗ (reached ER (finC (rt c)) 0 ∗ reached ER (finC (lt c)) 0)
    ∗ kept I c
    ∗ (mrest c qL (qHi qL).view.set qA (I.wq (lt c)) ∗ mrest c oR (oLo oR).view.set qA (I.wo (rt c)) ∗ mrest c oL (oHi oL).view.set qA (I.wo (lt c))))

def N34 (c : Dev nD) : sProp 𝕄 :=
  iprop((crd c 16 ∗ crd c 17 ∗ crd c 18 ∗ crd c 19) ∗ (place c (.dma 16) 0 ∗ place c (.dma 17) 0 ∗ place c (.dma 18) 0 ∗ place c (.dma 19) 0))
def D34 (c : Dev nD) : sProp 𝕄 :=
  iprop(place c (.dma 16) 1 ∗ place c (.dma 17) 1 ∗ place c (.dma 18) 1 ∗ place c (.dma 19) 1)
def N44 (c : Dev nD) : sProp 𝕄 :=
  iprop((place c (.dma 4) 0 ∗ place c (.dma 5) 0 ∗ place c (.dma 6) 0 ∗ place c (.dma 7) 0)
    ∗ (place c (.dma 12) 0 ∗ place c (.dma 13) 0 ∗ place c (.dma 14) 0 ∗ place c (.dma 15) 0))
def D44 (c : Dev nD) : sProp 𝕄 :=
  iprop((place c (.dma 4) 1 ∗ place c (.dma 5) 1 ∗ place c (.dma 6) 1 ∗ place c (.dma 7) 1)
    ∗ (place c (.dma 12) 1 ∗ place c (.dma 13) 1 ∗ place c (.dma 14) 1 ∗ place c (.dma 15) 0) ∗ crd c 15
    ∗ (reached ER (finC (rt c)) 0 ∗ reached ER (finC (lt c)) 0)
    ∗ kept I c
    ∗ (mrest c qL (qHi qL).view.set qA (I.wq (lt c)) ∗ mrest c oR (oLo oR).view.set qA (I.wo (rt c)) ∗ mrest c oL (oHi oL).view.set qA (I.wo (lt c)))
    ∗ (mp c wqM qA (I.wq c) ∗ mp c wqM qB (I.wq c) ∗ mp c woM qA (I.wo c) ∗ mp c woM qB (I.wo c))
    ∗ (mp c (qLo qR) qA (I.wq (rt c)) ∗ mp c (qHi qL) qA (I.wq (lt c)) ∗ mp c (oLo oR) qA (I.wo (rt c))))

/-! ## Payloads -/

theorem dPay_k (c : Dev nD) (j : Fin 4) : dPay I c (kS j).val = iprop(mp c (slot kM j) fullShare (filled c (I.kh c)) ∗ mp c (hcol khM c j) (q4 j) (I.kh c)) := by
  fin_cases j <;> rfl
theorem dPay_v (c : Dev nD) (j : Fin 4) : dPay I c (vS j).val = iprop(mp c (slot vM j) fullShare (filled c (I.vh c)) ∗ mp c (hcol vhM c j) (q4 j) (I.vh c)) := by
  fin_cases j <;> rfl

theorem op_lt : ∀ c, op (lt c) = rt c := by decide
theorem op_rt : ∀ c, op (rt c) = lt c := by decide

/-- With the barrier's unit to the left neighbour. -/
theorem pay_left (c : Dev nD) :
    iprop(env I K c ∗ mpAny c qL ∗ mpAny c oL ∗ mpAny c (qHi qO) ∗ mpAny c (oHi oO)) ⊢ (Rd I).payload (barC (lt c)) 0 false := by
  show _ ⊢ barPay (lt c) false
  unfold barPay
  rw [rt_lt]
  iintro ⟨#HE, H1, H2, H3, H4⟩
  isplitl [H1]; · iexact H1
  isplitl [H2]; · iexact H2
  isplitl [H3]; · iexact H3
  isplitl [H4]; · iexact H4
  isplitr; · iapply (env_dma I K c 8 (by decide)); iexact HE
  isplitr; · iapply (env_dma I K c 10 (by decide)); iexact HE
  isplitr; · iapply (env_dma I K c 17 (by decide)); iexact HE
  isplitr; · iapply (env_dma I K c 19 (by decide)); iexact HE
  iapply (env_fin I K c); iexact HE
/-- With the barrier's unit to the right neighbour. -/
theorem pay_right (c : Dev nD) :
    iprop(env I K c ∗ mpAny c qR ∗ mpAny c oR ∗ mpAny c (qLo qO) ∗ mpAny c (oLo oO)) ⊢ (Rd I).payload (barC (rt c)) 0 true := by
  show _ ⊢ barPay (rt c) true
  unfold barPay
  rw [lt_rt]
  iintro ⟨#HE, H1, H2, H3, H4⟩
  isplitl [H1]; · iexact H1
  isplitl [H2]; · iexact H2
  isplitl [H3]; · iexact H3
  isplitl [H4]; · iexact H4
  isplitr; · iapply (env_dma I K c 9 (by decide)); iexact HE
  isplitr; · iapply (env_dma I K c 11 (by decide)); iexact HE
  isplitr; · iapply (env_dma I K c 16 (by decide)); iexact HE
  isplitr; · iapply (env_dma I K c 18 (by decide)); iexact HE
  iapply (env_fin I K c); iexact HE

section Lands

variable (c : Dev nD)

theorem pay8 (fd : Buf (Elt F) ((qL).view.loc (rt c : Thread nD τ))) :
    mp (rt c) qL fullShare ((qL).view.write (Elt F) fd ((wqM).view.read (Elt F) (I.wq c)) Finset.univ) ⊢ dPay I (rt c) (8 : Fin 28).val :=
  land_same c (rt c) wqM qL (I.wq c) fd (I.wq (lt (rt c))) (fun x => by rw [lt_rt]; rfl)
theorem pay9 (fd : Buf (Elt F) ((qR).view.loc (lt c : Thread nD τ))) :
    mp (lt c) qR fullShare ((qR).view.write (Elt F) fd ((wqM).view.read (Elt F) (I.wq c)) Finset.univ) ⊢ dPay I (lt c) (9 : Fin 28).val :=
  land_same c (lt c) wqM qR (I.wq c) fd (I.wq (rt (lt c))) (fun x => by rw [rt_lt]; rfl)
theorem pay10 (fd : Buf (Elt F) ((oL).view.loc (rt c : Thread nD τ))) :
    mp (rt c) oL fullShare ((oL).view.write (Elt F) fd ((woM).view.read (Elt F) (I.wo c)) Finset.univ) ⊢ dPay I (rt c) (10 : Fin 28).val :=
  land_same c (rt c) woM oL (I.wo c) fd (I.wo (lt (rt c))) (fun x => by rw [lt_rt]; rfl)
theorem pay11 (fd : Buf (Elt F) ((oR).view.loc (lt c : Thread nD τ))) :
    mp (lt c) oR fullShare ((oR).view.write (Elt F) fd ((woM).view.read (Elt F) (I.wo c)) Finset.univ) ⊢ dPay I (lt c) (11 : Fin 28).val :=
  land_same c (lt c) woM oR (I.wo c) fd (I.wo (rt (lt c))) (fun x => by rw [rt_lt]; rfl)
theorem pay16 (fd : Buf (Elt F) ((qLo qO).view.loc (lt c : Thread nD τ))) :
    mp (lt c) (qLo qO) fullShare ((qLo qO).view.write (Elt F) fd ((qLo qR).view.read (Elt F) (I.wq (rt c))) Finset.univ)
      ⊢ dPay I (lt c) (16 : Fin 28).val :=
  land_same c (lt c) (qLo qR) (qLo qO) (I.wq (rt c)) fd (I.wq (op (lt c))) (fun x => by rw [op_lt]; rfl)
theorem pay17 (fd : Buf (Elt F) ((qHi qO).view.loc (rt c : Thread nD τ))) :
    mp (rt c) (qHi qO) fullShare ((qHi qO).view.write (Elt F) fd ((qHi qL).view.read (Elt F) (I.wq (lt c))) Finset.univ)
      ⊢ dPay I (rt c) (17 : Fin 28).val :=
  land_same c (rt c) (qHi qL) (qHi qO) (I.wq (lt c)) fd (I.wq (op (rt c))) (fun x => by rw [op_rt]; rfl)
theorem pay18 (fd : Buf (Elt F) ((oLo oO).view.loc (lt c : Thread nD τ))) :
    mp (lt c) (oLo oO) fullShare ((oLo oO).view.write (Elt F) fd ((oLo oR).view.read (Elt F) (I.wo (rt c))) Finset.univ)
      ⊢ dPay I (lt c) (18 : Fin 28).val :=
  land_same c (lt c) (oLo oR) (oLo oO) (I.wo (rt c)) fd (I.wo (op (lt c))) (fun x => by rw [op_lt]; rfl)
theorem pay19 (fd : Buf (Elt F) ((oHi oO).view.loc (rt c : Thread nD τ))) :
    mp (rt c) (oHi oO) fullShare ((oHi oO).view.write (Elt F) fd ((oHi oL).view.read (Elt F) (I.wo (lt c))) Finset.univ)
      ⊢ dPay I (rt c) (19 : Fin 28).val :=
  land_same c (rt c) (oHi oL) (oHi oO) (I.wo (lt c)) fd (I.wo (op (rt c))) (fun x => by rw [op_rt]; rfl)

end Lands

end Cert.Attn

end
-- ==== Proof.Talk1.lean ====
/- The pieces of the body up to the first wait for K and V, run by the protocol's rules. -/
module

public import proofs.«01_k».proof.Proof.State

@[expose] public section

set_option maxRecDepth 16384

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Ins F) (K : GSem nD τ sig → ℕ)

/-- The copies into slots 0 and 1. -/
theorem run_part2 (c : Dev nD) (v2 v13 : BitVec 32) :
    iprop(env I K c ∗ need I c 0 ∗ need I c 1)
    ⊢ wp frame (wpE (defs₀ (F := F)) 𝒱 (c : Thread nD τ) none) Set.univ (atArgs (k0_part2 (F := F)) c v2 v13)
        fun _ => iprop(env I K c ∗ tick c 0 ∗ tick c 1) := by
  rw [k0_part2_eq_skeleton]
  unfold k0_part2_skel need tick
  iintro ⟨#HE, ⟨Hk0, Hv0, ⟨%f0, Hd0⟩, ⟨%g0, He0⟩, Ht0, Hu0, Hp0, Hr0⟩, ⟨Hk1, Hv1, ⟨%f1, Hd1⟩, ⟨%g1, He1⟩, Ht1, Hu1, Hp1, Hr1⟩⟩
  iapply (step_copy I K c (kS 0) (by decide) (hcol khM c 0) (slot kM 0) rfl (q4 0) (I.kh c) f0 (pay_k I c 0 f0)) $$ HE Hk0 Hd0 Ht0
  iintro Hc0
  iapply (step_copy I K c (vS 0) (by decide) (hcol vhM c 0) (slot vM 0) rfl (q4 0) (I.vh c) g0 (pay_v I c 0 g0)) $$ HE Hv0 He0 Hu0
  iintro Hc1
  iapply (step_copy I K c (kS 1) (by decide) (hcol khM c 1) (slot kM 1) rfl (q4 1) (I.kh c) f1 (pay_k I c 1 f1)) $$ HE Hk1 Hd1 Ht1
  iintro Hc2
  iapply (step_copy I K c (vS 1) (by decide) (hcol vhM c 1) (slot vM 1) rfl (q4 1) (I.vh c) g1 (pay_v I c 1 g1)) $$ HE Hv1 He1 Hu1
  iintro Hc3
  iapply (step_ret c)
  isplitr; · iexact HE
  isplitl [Hc0 Hc1 Hp0 Hr0]
  · isplitl [Hc0]; · iexact Hc0
    isplitl [Hc1]; · iexact Hc1
    isplitl [Hp0]; · iexact Hp0
    iexact Hr0
  isplitl [Hc2]; · iexact Hc2
  isplitl [Hc3]; · iexact Hc3
  isplitl [Hp1]; · iexact Hp1
  iexact Hr1

/-- The copies into slots 2 and 3. -/
theorem run_part3 (c : Dev nD) (v24 v35 : BitVec 32) :
    iprop(env I K c ∗ need I c 2 ∗ need I c 3)
    ⊢ wp frame (wpE (defs₀ (F := F)) 𝒱 (c : Thread nD τ) none) Set.univ (atArgs (k0_part3 (F := F)) c v24 v35)
        fun _ => iprop(env I K c ∗ tick c 2 ∗ tick c 3) := by
  rw [k0_part3_eq_skeleton]
  unfold k0_part3_skel need tick
  iintro ⟨#HE, ⟨Hk0, Hv0, ⟨%f0, Hd0⟩, ⟨%g0, He0⟩, Ht0, Hu0, Hp0, Hr0⟩, ⟨Hk1, Hv1, ⟨%f1, Hd1⟩, ⟨%g1, He1⟩, Ht1, Hu1, Hp1, Hr1⟩⟩
  iapply (step_copy I K c (kS 2) (by decide) (hcol khM c 2) (slot kM 2) rfl (q4 2) (I.kh c) f0 (pay_k I c 2 f0)) $$ HE Hk0 Hd0 Ht0
  iintro Hc0
  iapply (step_copy I K c (vS 2) (by decide) (hcol vhM c 2) (slot vM 2) rfl (q4 2) (I.vh c) g0 (pay_v I c 2 g0)) $$ HE Hv0 He0 Hu0
  iintro Hc1
  iapply (step_copy I K c (kS 3) (by decide) (hcol khM c 3) (slot kM 3) rfl (q4 3) (I.kh c) f1 (pay_k I c 3 f1)) $$ HE Hk1 Hd1 Ht1
  iintro Hc2
  iapply (step_copy I K c (vS 3) (by decide) (hcol vhM c 3) (slot vM 3) rfl (q4 3) (I.vh c) g1 (pay_v I c 3 g1)) $$ HE Hv1 He1 Hu1
  iintro Hc3
  iapply (step_ret c)
  isplitr; · iexact HE
  isplitl [Hc0 Hc1 Hp0 Hr0]
  · isplitl [Hc0]; · iexact Hc0
    isplitl [Hc1]; · iexact Hc1
    isplitl [Hp0]; · iexact Hp0
    iexact Hr0
  isplitl [Hc2]; · iexact Hc2
  isplitl [Hc3]; · iexact Hc3
  isplitl [Hp1]; · iexact Hp1
  iexact Hr1

/-- The barrier, and the first three sends. -/
theorem run_part4 (c : Dev nD) (v13 v24 : BitVec 32) :
    iprop(env I K c ∗ N4 I c)
    ⊢ wp frame (wpE (defs₀ (F := F)) 𝒱 (c : Thread nD τ) none) Set.univ (atArgs (k0_part4 (F := F)) c v13 v24)
        fun r => iprop(env I K c ∗ D4 (F := F) c ∗ ⌜r = k0_pay1 (F := F)⌝) := by
  rw [k0_part4_eq_skeleton]
  unfold k0_part4_skel N4 D4 lends
  iintro ⟨#HE, HO, Hb, Hcb, Htl, Htr, ⟨⟨A1, A2, A3, A4⟩, ⟨B1, B2, B3, B4⟩⟩, Hq1, Hq2, Ho1, T4, T5, T6, T8, T9, T10⟩
  ihave Hl := (pay_left I K c) $$ [A1 A2 A3 A4]
  · isplitr; · iexact HE
    isplitl [A1]; · iexact A1
    isplitl [A2]; · iexact A2
    isplitl [A3]; · iexact A3
    iexact A4
  ihave Hr := (pay_right I K c) $$ [B1 B2 B3 B4]
  · isplitr; · iexact HE
    isplitl [B1]; · iexact B1
    isplitl [B2]; · iexact B2
    isplitl [B3]; · iexact B3
    iexact B4
  iapply (step_signal I K c (lt c) _ (dev1_eq c) 0 false 0 (bar_mem (lt c)) rfl) $$ HE HO Htl Hl []
  · iapply (env_bar I K c (lt c)); iexact HE
  iintro HO
  iapply (step_signal I K c (rt c) _ (dev2_eq c) 0 true 1 (bar_mem (rt c)) rfl) $$ HE HO Htr Hr []
  · iapply (env_bar I K c (rt c)); iexact HE
  iintro HO
  iapply (step_await I K c 0 2 ((env_lev I K c).trans (mayWait c (.reg 0) 2 2 high2 (by decide))) (bar_mem c)) $$ HE Hcb HO Hb
  rw [rest_bar]
  unfold barPay
  iintro ⟨HO, Hb, ⟨⟨%a1, R1⟩, ⟨%a2, R2⟩, R3, R4, #R8, #R10, #R17, #R19, #Rf⟩, ⟨⟨%b1, L1⟩, L2, L3, L4, #L9, #L11, #L16, #L18, #Lf⟩⟩
  iapply (step_send I K c (rt c) _ (dev3_eq c) 4 8 (by decide) (by decide) rfl 2 rfl wqM qL rfl qA (I.wq c) a1 (Entails.refl _) (pay8 I c a1))
    $$ HE Hq1 R1 HO T4 T8 R8
  iintro ⟨C4, HO⟩
  iapply (step_send I K c (lt c) _ (dev4_eq c) 5 9 (by decide) (by decide) rfl 3 rfl wqM qR rfl qB (I.wq c) b1 (Entails.refl _) (pay9 I c b1))
    $$ HE Hq2 L1 HO T5 T9 L9
  iintro ⟨C5, HO⟩
  iapply (step_send I K c (rt c) _ (dev5_eq c) 6 10 (by decide) (by decide) rfl 4 rfl woM oL rfl qA (I.wo c) a2 (Entails.refl _) (pay10 I c a2))
    $$ HE Ho1 R2 HO T6 T10 R10
  iintro ⟨C6, HO⟩
  iapply (step_ret c)
  unfold G2
  isplitr; · iexact HE
  isplitl; ·
    isplitl [HO]; · iexact HO
    isplitl [Hb]; · iexact Hb
    isplitl [C4]; · iexact C4
    isplitl [C5]; · iexact C5
    isplitl [C6]; · iexact C6
    isplitl [L2]; · iexact L2
    isplitr; · iexact L11
    isplitl [R3]; · iexact R3
    isplitl [R4]; · iexact R4
    isplitl [L3]; · iexact L3
    isplitl [L4]; · iexact L4
    isplitr; · iexact R17
    isplitr; · iexact R19
    isplitr; · iexact L16
    isplitr; · iexact L18
    isplitr; · iexact Rf
    iexact Lf
  ipureintro; rfl

end Cert.Attn

end
-- ==== Proof.Talk2.lean ====
/- The waits for K and V and the loads around them. -/
module

public import proofs.«01_k».proof.Proof.State

@[expose] public section

set_option maxRecDepth 16384

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Ins F) (K : GSem nD τ sig → ℕ)

theorem within_slot (M : Memref sig .tc .vmem S4x2x512x512 .bf16) (off : Fin 4 → ℕ)
    (inb : ∀ a, off a + S1x2x512x512.size a ≤ S4x2x512x512.size a) (off' : Fin 4 → ℕ)
    (inb' : ∀ a, off' a + S1x1x512x64.size a ≤ S4x2x512x512.size a)
    (hw : LoadRect.within (Rect.unit (s := S4x2x512x512) off S1x2x512x512.size inb) (Rect.unit (s := S4x2x512x512) off' S1x1x512x64.size inb').toLoadRect = true) :
    M.view.setOn (Rect.unit (s := S4x2x512x512) off' S1x1x512x64.size inb').toLoadRect.set
      ⊆ M.view.setOn (Rect.unit (s := S4x2x512x512) off S1x2x512x512.size inb).set :=
  Memref.setOn_subset_setOn_of_within M _ _ hw

/-- Both waits for slot `j`, the second in whatever follows. -/
theorem step_slot (c : Dev nD) (j : Fin 4) (n m : ℕ) (hH : HighFrom n m) (hm : 0 < m)
    (src src' : Memref sig .tc .hbm S2x512x512 .bf16)
    {hs : src.view.WordExact} {hd : (slot kM j).view.WordExact} {hs' : src'.view.WordExact} {hd' : (slot vM j).view.WordExact}
    {α : Type} {Q : α → sProp 𝕄} {kk : PUnit → Prog (TpuEff nD τ sig (Elt F) Λ₀ .tc) α} :
    env I K c ⊢ iprop(tick c j -∗ debt c n
      -∗ ((debt c n ∗ done I c j ∗ slotW (M := kM) c ![j.val, 0, 0, 0] (slot_inb j) (filled c (I.kh c))
            ∗ slotW (M := vM) c ![j.val, 0, 0, 0] (slot_inb j) (filled c (I.vh c)))
          -∗ wp frame (wpE (defs₀ (F := F)) 𝒱 (c : Thread nD τ) none) Set.univ (kk ⟨⟩) Q)
      -∗ wp frame (wpE (defs₀ (F := F)) 𝒱 (c : Thread nD τ) none) Set.univ
          (.op (.waitDma2 (kS j) src (slot kM j) hs hd) fun _ => .op (.waitDma2 (vS j) src' (slot vM j) hs' hd') kk) Q) := by
  unfold tick done
  iintro #HE ⟨C1, C2, P1, P2⟩ HO Hk
  iapply (step_wait I K c (kS j) (by fin_cases j <;> decide) n m hH (by fin_cases j <;> exact hm) src (slot kM j) (by fin_cases j <;> rfl)) $$ HE C1 HO P1
  rw [dPay_k]
  iintro ⟨HO, P1, S1, H1⟩
  iapply (step_wait I K c (vS j) (by fin_cases j <;> decide) n m hH (by fin_cases j <;> exact hm) src' (slot vM j) (by fin_cases j <;> rfl)) $$ HE C2 HO P2
  rw [dPay_v]
  iintro ⟨HO, P2, S2, H2⟩
  ihave S1 := (Entails.of_eq (slot_form kM c j (filled c (I.kh c)))) $$ S1
  ihave S2 := (Entails.of_eq (slot_form vM c j (filled c (I.vh c)))) $$ S2
  iapply Hk
  isplitl [HO]; · iexact HO
  isplitl [H1 H2 P1 P2]
  · isplitl [H1]; · iexact H1
    isplitl [H2]; · iexact H2
    isplitl [P1]; · iexact P1
    iexact P2
  isplitl [S1]; · iexact S1
  iexact S2

/-- The last send of the first phase, the loads of the own weights and the wait for slot 0. -/
theorem run_part5 (c : Dev nD) (v13 : BitVec 32) :
    iprop(env I K c ∗ D4 (F := F) c ∗ N5 I c ∗ tick c 0 ∗ mw c xM fullShare (I.x c) ∗ mw c wqM qC (I.wq c) ∗ mw c woM qC (I.wo c))
    ⊢ wp frame (wpE (defs₀ (F := F)) 𝒱 (c : Thread nD τ) none) Set.univ (atArgs (k0_part5 (F := F)) c v13)
        fun r => iprop(env I K c ∗ D5 (F := F) c ∗ done I c 0 ∗ mw c xM fullShare (I.x c) ∗ mw c wqM qC (I.wq c) ∗ mw c woM qC (I.wo c)
          ∗ slotW (M := kM) c ![0, 0, 0, 0] inb_S4x2x512x512_S1x2x512x512_0_0_0_0 (filled c (I.kh c))
          ∗ slotW (M := vM) c ![0, 0, 0, 0] inb_S4x2x512x512_S1x2x512x512_0_0_0_0 (filled c (I.vh c))
          ∗ ⌜r.1 = k0_pay2 (I.wq c) ∧ r.2.1 = k0_pay3 (I.wo c)
            ∧ r.2.2.1 = k0_pay4 (I.wq c) (xM.view.readAt (Elt F) (Rect.unit (s := S2x512x768) ![0, 0, 0] S1x512x768.size inb_S2x512x768_S1x512x768_0_0_0).toLoadRect (I.x c))
            ∧ r.2.2.2 = k0_pay5 (I.wq c) (xM.view.readAt (Elt F) (Rect.unit (s := S2x512x768) ![0, 0, 0] S1x512x768.size inb_S2x512x768_S1x512x768_0_0_0).toLoadRect (I.x c))
                (kM.view.readAt (Elt F) (Rect.unit (s := S4x2x512x512) ![0, 0, 0, 0] S1x1x512x64.size inb_S4x2x512x512_S1x1x512x64_0_0_0_0).toLoadRect (filled c (I.kh c)))⌝) := by
  rw [k0_part5_eq_skeleton]
  unfold k0_part5_skel D4 N5 D5
  iintro ⟨#HE, ⟨HO, Hb, C4, C5, C6, ⟨%f, L2⟩, #L11, HG⟩, ⟨Ho, T7, T11⟩, Hs, Hx, Hq, Hw⟩
  iapply (step_send I K c (lt c) _ (dev6_eq c) 7 11 (by decide) (by decide) rfl 5 rfl woM oR rfl qB (I.wo c) f (Entails.refl _) (pay11 I c f))
    $$ HE Ho L2 HO T7 T11 L11
  iintro ⟨C7, HO⟩
  iapply (step_load c wqM Finset.univ (Finset.subset_univ _) qC (I.wq c)) $$ Hq
  iintro Hq
  iapply (step_load c woM Finset.univ (Finset.subset_univ _) qC (I.wo c)) $$ Hw
  iintro Hw
  iapply (step_slot I K c 0 6 3 high6 (by decide) (hcol khM c 0) (hcol vhM c 0)) $$ HE Hs HO
  iintro ⟨HO, Hd, Sk, Sv⟩
  iapply (step_load c xM Finset.univ (Finset.subset_univ _) fullShare (I.x c)) $$ Hx
  iintro Hx
  iapply (step_load c kM _ (within_slot kM _ _ ![0, 0, 0, 0] inb_S4x2x512x512_S1x1x512x64_0_0_0_0 (by decide)) fullShare (filled c (I.kh c))) $$ Sk
  iintro Sk
  iapply (step_ret c)
  isplitr; · iexact HE
  isplitl [HO Hb C4 C5 C6 C7 HG]
  · isplitl [HO]; · iexact HO
    isplitl [Hb]; · iexact Hb
    isplitl [C4]; · iexact C4
    isplitl [C5]; · iexact C5
    isplitl [C6]; · iexact C6
    isplitl [C7]; · iexact C7
    iexact HG
  isplitl [Hd]; · iexact Hd
  isplitl [Hx]; · iexact Hx
  isplitl [Hq]; · iexact Hq
  isplitl [Hw]; · iexact Hw
  isplitl [Sk]; · iexact Sk
  isplitl [Sv]; · iexact Sv
  ipureintro
  have e1 := Memref.readAt_unit_zero (Elt F) cc0_stg1_0 (off := ![0, 0]) (by decide) inb_S768x512_S768x512_0_0 (I.wq c)
  have e2 := Memref.readAt_unit_zero (Elt F) cc0_stg2_0 (off := ![0, 0]) (by decide) inb_S512x768_S512x768_0_0 (I.wo c)
  exact ⟨congrArg k0_pay2 e1, congrArg k0_pay3 e2, congrArg (fun w => k0_pay4 w _) e1, congrArg (fun w => k0_pay5 w _ _) e1⟩

end Cert.Attn

end
-- ==== Proof.Talk3.lean ====
/- The waits for slots 1 to 3 and the loads after them. -/
module

public import proofs.«01_k».proof.Proof.Talk2

@[expose] public section

set_option maxRecDepth 16384

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Ins F) (K : GSem nD τ sig → ℕ)

/-- The wait for slot 1, and the loads after it. -/
theorem run_part16 (c : Dev nD) (v96 : FVec F S512x512 .f32) (q : FVec F S768x512 .bf16) :
    iprop(env I K c ∗ debt c 10 ∗ tick c 1 ∗ mw c xM fullShare (I.x c))
    ⊢ wp frame (wpE (defs₀ (F := F)) 𝒱 (c : Thread nD τ) none) Set.univ (atArgs (k0_part16 (F := F)) c v96 q)
        fun r => iprop(env I K c ∗ debt c 10 ∗ done I c 1 ∗ mw c xM fullShare (I.x c)
          ∗ slotW (M := kM) c ![1, 0, 0, 0] inb_S4x2x512x512_S1x2x512x512_1_0_0_0 (filled c (I.kh c))
          ∗ slotW (M := vM) c ![1, 0, 0, 0] inb_S4x2x512x512_S1x2x512x512_1_0_0_0 (filled c (I.vh c))
          ∗ ⌜r.1 = k0_pay31 q (xM.view.readAt (Elt F) (Rect.unit (s := S2x512x768) ![0, 0, 0] S1x512x768.size inb_S2x512x768_S1x512x768_0_0_0).toLoadRect (I.x c))
            ∧ r.2.1 = k0_pay32 v96 q (xM.view.readAt (Elt F) (Rect.unit (s := S2x512x768) ![0, 0, 0] S1x512x768.size inb_S2x512x768_S1x512x768_0_0_0).toLoadRect (I.x c)) (kM.view.readAt (Elt F) (Rect.unit (s := S4x2x512x512) ![1, 0, 0, 0] S1x1x512x64.size inb_S4x2x512x512_S1x1x512x64_1_0_0_0).toLoadRect (filled c (I.kh c))) (vM.view.readAt (Elt F) (Rect.unit (s := S4x2x512x512) ![1, 0, 0, 0] S1x1x512x64.size inb_S4x2x512x512_S1x1x512x64_1_0_0_0).toLoadRect (filled c (I.vh c)))
            ∧ r.2.2 = k0_pay33 q (xM.view.readAt (Elt F) (Rect.unit (s := S2x512x768) ![0, 0, 0] S1x512x768.size inb_S2x512x768_S1x512x768_0_0_0).toLoadRect (I.x c))⌝) := by
  rw [k0_part16_eq_skeleton]
  unfold k0_part16_skel
  iintro ⟨#HE, HO, Hs, Hx⟩
  iapply (step_slot I K c 1 10 4 high10 (by decide) (hcol khM c 1) (hcol vhM c 1)) $$ HE Hs HO
  iintro ⟨HO, Hd, Sk, Sv⟩
  iapply (step_load c xM Finset.univ (Finset.subset_univ _) fullShare (I.x c)) $$ Hx
  iintro Hx
  iapply (step_load c kM _ (within_slot kM _ _ ![1, 0, 0, 0] inb_S4x2x512x512_S1x1x512x64_1_0_0_0 (by decide)) fullShare (filled c (I.kh c))) $$ Sk
  iintro Sk
  iapply (step_load c vM _ (within_slot vM _ _ ![1, 0, 0, 0] inb_S4x2x512x512_S1x1x512x64_1_0_0_0 (by decide)) fullShare (filled c (I.vh c))) $$ Sv
  iintro Sv
  iapply (step_ret c)
  isplitr; · iexact HE
  isplitl [HO]; · iexact HO
  isplitl [Hd]; · iexact Hd
  isplitl [Hx]; · iexact Hx
  isplitl [Sk]; · iexact Sk
  isplitl [Sv]; · iexact Sv
  ipureintro
  exact ⟨rfl, rfl, rfl⟩

/-- The wait for slot 2, and the loads after it. -/
theorem run_part25 (c : Dev nD) (v96 : FVec F S512x512 .f32) (q : FVec F S768x512 .bf16) :
    iprop(env I K c ∗ debt c 10 ∗ tick c 2 ∗ mw c xM fullShare (I.x c))
    ⊢ wp frame (wpE (defs₀ (F := F)) 𝒱 (c : Thread nD τ) none) Set.univ (atArgs (k0_part25 (F := F)) c v96 q)
        fun r => iprop(env I K c ∗ debt c 10 ∗ done I c 2 ∗ mw c xM fullShare (I.x c)
          ∗ slotW (M := kM) c ![2, 0, 0, 0] inb_S4x2x512x512_S1x2x512x512_2_0_0_0 (filled c (I.kh c))
          ∗ slotW (M := vM) c ![2, 0, 0, 0] inb_S4x2x512x512_S1x2x512x512_2_0_0_0 (filled c (I.vh c))
          ∗ ⌜r.1 = k0_pay64 q (xM.view.readAt (Elt F) (Rect.unit (s := S2x512x768) ![0, 0, 0] S1x512x768.size inb_S2x512x768_S1x512x768_0_0_0).toLoadRect (I.x c))
            ∧ r.2 = k0_pay65 v96 q (xM.view.readAt (Elt F) (Rect.unit (s := S2x512x768) ![0, 0, 0] S1x512x768.size inb_S2x512x768_S1x512x768_0_0_0).toLoadRect (I.x c)) (kM.view.readAt (Elt F) (Rect.unit (s := S4x2x512x512) ![2, 0, 0, 0] S1x1x512x64.size inb_S4x2x512x512_S1x1x512x64_2_0_0_0).toLoadRect (filled c (I.kh c))) (vM.view.readAt (Elt F) (Rect.unit (s := S4x2x512x512) ![2, 0, 0, 0] S1x1x512x64.size inb_S4x2x512x512_S1x1x512x64_2_0_0_0).toLoadRect (filled c (I.vh c)))⌝) := by
  rw [k0_part25_eq_skeleton]
  unfold k0_part25_skel
  iintro ⟨#HE, HO, Hs, Hx⟩
  iapply (step_slot I K c 2 10 4 high10 (by decide) (hcol khM c 2) (hcol vhM c 2)) $$ HE Hs HO
  iintro ⟨HO, Hd, Sk, Sv⟩
  iapply (step_load c xM Finset.univ (Finset.subset_univ _) fullShare (I.x c)) $$ Hx
  iintro Hx
  iapply (step_load c kM _ (within_slot kM _ _ ![2, 0, 0, 0] inb_S4x2x512x512_S1x1x512x64_2_0_0_0 (by decide)) fullShare (filled c (I.kh c))) $$ Sk
  iintro Sk
  iapply (step_load c vM _ (within_slot vM _ _ ![2, 0, 0, 0] inb_S4x2x512x512_S1x1x512x64_2_0_0_0 (by decide)) fullShare (filled c (I.vh c))) $$ Sv
  iintro Sv
  iapply (step_ret c)
  isplitr; · iexact HE
  isplitl [HO]; · iexact HO
  isplitl [Hd]; · iexact Hd
  isplitl [Hx]; · iexact Hx
  isplitl [Sk]; · iexact Sk
  isplitl [Sv]; · iexact Sv
  ipureintro
  exact ⟨rfl, rfl⟩

/-- The load of the opposite device's Wo, the wait for slot 3, and the loads after it. -/
theorem run_part35 (c : Dev nD) (v96 : FVec F S512x512 .f32) (q : FVec F S768x512 .bf16) :
    iprop(env I K c ∗ debt c 10 ∗ tick c 3 ∗ mw c xM fullShare (I.x c) ∗ mw c oO fullShare (I.wo (op c)))
    ⊢ wp frame (wpE (defs₀ (F := F)) 𝒱 (c : Thread nD τ) none) Set.univ (atArgs (k0_part35 (F := F)) c v96 q)
        fun r => iprop(env I K c ∗ debt c 10 ∗ done I c 3 ∗ mw c xM fullShare (I.x c) ∗ mw c oO fullShare (I.wo (op c))
          ∗ slotW (M := kM) c ![3, 0, 0, 0] inb_S4x2x512x512_S1x2x512x512_3_0_0_0 (filled c (I.kh c))
          ∗ slotW (M := vM) c ![3, 0, 0, 0] inb_S4x2x512x512_S1x2x512x512_3_0_0_0 (filled c (I.vh c))
          ∗ ⌜r.1 = I.wo (op c) ∧ r.2.1 = k0_pay93 q (xM.view.readAt (Elt F) (Rect.unit (s := S2x512x768) ![0, 0, 0] S1x512x768.size inb_S2x512x768_S1x512x768_0_0_0).toLoadRect (I.x c))
            ∧ r.2.2.1 = k0_pay95 v96 q (xM.view.readAt (Elt F) (Rect.unit (s := S2x512x768) ![0, 0, 0] S1x512x768.size inb_S2x512x768_S1x512x768_0_0_0).toLoadRect (I.x c)) (kM.view.readAt (Elt F) (Rect.unit (s := S4x2x512x512) ![3, 0, 0, 0] S1x1x512x64.size inb_S4x2x512x512_S1x1x512x64_3_0_0_0).toLoadRect (filled c (I.kh c)))
            ∧ r.2.2.2.1 = k0_pay96 v96 q (xM.view.readAt (Elt F) (Rect.unit (s := S2x512x768) ![0, 0, 0] S1x512x768.size inb_S2x512x768_S1x512x768_0_0_0).toLoadRect (I.x c)) (kM.view.readAt (Elt F) (Rect.unit (s := S4x2x512x512) ![3, 0, 0, 0] S1x1x512x64.size inb_S4x2x512x512_S1x1x512x64_3_0_0_0).toLoadRect (filled c (I.kh c)))
            ∧ r.2.2.2.2.1 = k0_pay97 (vM.view.readAt (Elt F) (Rect.unit (s := S4x2x512x512) ![3, 0, 0, 0] S1x1x512x64.size inb_S4x2x512x512_S1x1x512x64_3_0_0_0).toLoadRect (filled c (I.vh c)))
            ∧ r.2.2.2.2.2 = constant S512x64 .f32 0x00000000#32⌝) := by
  rw [k0_part35_eq_skeleton]
  unfold k0_part35_skel
  iintro ⟨#HE, HO, Hs, Hx, Ho⟩
  iapply (step_load c oO Finset.univ (Finset.subset_univ _) fullShare (I.wo (op c))) $$ Ho
  iintro Ho
  iapply (step_slot I K c 3 10 4 high10 (by decide) (hcol khM c 3) (hcol vhM c 3)) $$ HE Hs HO
  iintro ⟨HO, Hd, Sk, Sv⟩
  iapply (step_load c xM Finset.univ (Finset.subset_univ _) fullShare (I.x c)) $$ Hx
  iintro Hx
  iapply (step_load c kM _ (within_slot kM _ _ ![3, 0, 0, 0] inb_S4x2x512x512_S1x1x512x64_3_0_0_0 (by decide)) fullShare (filled c (I.kh c))) $$ Sk
  iintro Sk
  iapply (step_load c vM _ (within_slot vM _ _ ![3, 0, 0, 0] inb_S4x2x512x512_S1x1x512x64_3_0_0_0 (by decide)) fullShare (filled c (I.vh c))) $$ Sv
  iintro Sv
  iapply (step_ret c)
  isplitr; · iexact HE
  isplitl [HO]; · iexact HO
  isplitl [Hd]; · iexact Hd
  isplitl [Hx]; · iexact Hx
  isplitl [Ho]; · iexact Ho
  isplitl [Sk]; · iexact Sk
  isplitl [Sv]; · iexact Sv
  ipureintro
  exact ⟨Memref.readAt_unit_zero (Elt F) cc0_scratch5 (off := ![0, 0]) (by decide) inb_S512x768_S512x768_0_0 (I.wo (op c)), rfl, rfl, rfl, rfl, rfl⟩

end Cert.Attn

end
-- ==== Proof.Talk4.lean ====
/- The waits for what the neighbours send and for the own sends, and the second phase's sends. -/
module

public import proofs.«01_k».proof.Proof.State

@[expose] public section

set_option maxRecDepth 16384

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Ins F) (K : GSem nD τ sig → ℕ)

/-- What a wait for a receive or for a send leaves, its payload spelt out. -/
theorem step_get (c : Dev nD) (k : Fin 28) (hk : 4 ≤ k.val) (n m : ℕ) (hH : HighFrom n m) (hl : lvS (.dma k) < m)
    {sp sp' : Space} {s : Shape} {e : EltTy} (src : Memref sig .tc sp s e) (dst : Memref sig .tc sp' s e)
    (hN : dst.view.dmaCredit = amt k.val) (P : sProp 𝕄) (hP : dPay I c k.val = P)
    {hsrc : src.view.WordExact} {hdst : dst.view.WordExact}
    {α : Type} {Q : α → sProp 𝕄} {kk : PUnit → Prog (TpuEff nD τ sig (Elt F) Λ₀ .tc) α} :
    env I K c ⊢ iprop(crd c k -∗ debt c n -∗ place c (.dma k) 0
      -∗ ((debt c n ∗ place c (.dma k) 1 ∗ P) -∗ wp frame (wpE (defs₀ (F := F)) 𝒱 (c : Thread nD τ) none) Set.univ (kk ⟨⟩) Q)
          -∗ wp frame (wpE (defs₀ (F := F)) 𝒱 (c : Thread nD τ) none) Set.univ (.op (.waitDma2 k src dst hsrc hdst) kk) Q) := by
  subst hP; exact step_wait I K c k hk n m hH hl src dst hN

/-- The first phase's receives waited for, and the first send of the second phase; a store to the result before them. -/
theorem run_part14 (c : Dev nD) (v13 v24 : BitVec 32) (w : FVec F S512x768 .f32) (w' : Vec F S1x512x768 .f32)
    (f : Buf (Elt F) ((outM).view.loc (c : Thread nD τ))) :
    iprop(env I K c ∗ mw c outM fullShare f ∗ D5 (F := F) c ∗ N14 (F := F) c)
    ⊢ wp frame (wpE (defs₀ (F := F)) 𝒱 (c : Thread nD τ) none) Set.univ (atArgs (k0_part14 (F := F)) c v13 v24 w w')
        fun _ => iprop(env I K c ∗ mw c outM fullShare ((outM.access (Rect.unit (s := S2x512x768) ![1, 0, 0] S1x512x768.size inb_S2x512x768_S1x512x768_1_0_0)).write (Elt F) f (k0_pay30 w) Finset.univ)
          ∗ D14 I c) := by
  rw [k0_part14_eq_skeleton]
  unfold k0_part14_skel D5 N14 D14 G2 kept
  iintro ⟨#HE, Hout, ⟨HO, Hb, C4, C5, C6, C7, G1, G2, G3, G4, #R17, #R19, #R16, #R18, #Rr, #Rl⟩, ⟨C8, C9, C10, C11⟩, ⟨P8, P9, P10, P11⟩,
    ⟨T12, T13, T14, T15⟩, ⟨T16, T17, T18, T19⟩⟩
  iapply (step_store c outM (Rect.unit (s := S2x512x768) ![1, 0, 0] S1x512x768.size inb_S2x512x768_S1x512x768_1_0_0) (k0_pay30 w) f) $$ Hout
  iintro Hout
  iapply (step_get I K c 8 (by decide) 6 3 high6 (by decide) wqM qL rfl (mp c qL fullShare (I.wq (lt c))) rfl) $$ HE C8 HO P8
  iintro ⟨HO, P8, Q1⟩
  iapply (step_get I K c 9 (by decide) 6 3 high6 (by decide) wqM qR rfl (mp c qR fullShare (I.wq (rt c))) rfl) $$ HE C9 HO P9
  iintro ⟨HO, P9, Q2⟩
  iapply (step_get I K c 10 (by decide) 6 3 high6 (by decide) woM oL rfl (mp c oL fullShare (I.wo (lt c))) rfl) $$ HE C10 HO P10
  iintro ⟨HO, P10, Q3⟩
  iapply (step_get I K c 11 (by decide) 6 3 high6 (by decide) woM oR rfl (mp c oR fullShare (I.wo (rt c))) rfl) $$ HE C11 HO P11
  iintro ⟨HO, P11, Q4⟩
  ihave Q2 := (share_two _ _ _).1 $$ Q2
  icases Q2 with ⟨Q2, Q2'⟩
  ihave Q2 := (lend c qR (qLo qR).view.set (View.set_slice_subset _ _) qA (I.wq (rt c))).1 $$ Q2
  icases Q2 with ⟨Q2, Q2''⟩
  icases G3 with ⟨%g, G3⟩
  iapply (step_send I K c (lt c) _ (dev7_eq c) 12 16 (by decide) (by decide) rfl 6 rfl (qLo qR) (qLo qO) rfl qA (I.wq (rt c)) g (Entails.refl _) (pay16 I c g))
    $$ HE Q2 G3 HO T12 T16 R16
  iintro ⟨C12, HO⟩
  iapply (step_ret c)
  isplitr; · iexact HE
  isplitl [Hout]; · iexact Hout
  isplitl [HO]; · iexact HO
  isplitl [C4 C5 C6 C7 C12]
  · isplitl [C4]; · iexact C4
    isplitl [C5]; · iexact C5
    isplitl [C6]; · iexact C6
    isplitl [C7]; · iexact C7
    iexact C12
  isplitl [G1 G2 G4]
  · isplitl [G1]; · iexact G1
    isplitl [G2]; · iexact G2
    isplitl [G4]; · iexact G4
    isplitr; · iexact R17
    isplitr; · iexact R19
    isplitr; · iexact R18
    isplitr; · iexact Rr
    iexact Rl
  isplitl [T13 T14 T15]
  · isplitl [T13]; · iexact T13
    isplitl [T14]; · iexact T14
    iexact T15
  isplitl [T17 T18 T19]
  · isplitl [T17]; · iexact T17
    isplitl [T18]; · iexact T18
    iexact T19
  isplitl [Hb P8 P9 P10 P11 Q2'']
  · isplitl [Hb]; · iexact Hb
    isplitl [P8 P9 P10 P11]
    · isplitl [P8]; · iexact P8
      isplitl [P9]; · iexact P9
      isplitl [P10]; · iexact P10
      iexact P11
    iexact Q2''
  isplitl [Q1]; · iexact Q1
  isplitl [Q2']; · iexact Q2'
  isplitl [Q3]; · iexact Q3
  iexact Q4

/-- The other three sends of the second phase, and the loads of the left neighbour's weights. -/
theorem run_part15 (c : Dev nD) (v13 v24 v449 : BitVec 32) :
    iprop(env I K c ∗ D14 I c)
    ⊢ wp frame (wpE (defs₀ (F := F)) 𝒱 (c : Thread nD τ) none) Set.univ (atArgs (k0_part15 (F := F)) c v13 v24 v449)
        fun r => iprop(env I K c ∗ debt c 10 ∗ D15 I c ∗ mw c qL fullShare.right (I.wq (lt c)) ∗ mw c qR fullShare.right (I.wq (rt c))
          ∗ mw c oL fullShare.right (I.wo (lt c)) ∗ mw c oR fullShare.right (I.wo (rt c))
          ∗ ⌜r.1 = I.wq (lt c) ∧ r.2 = I.wo (lt c)⌝) := by
  rw [k0_part15_eq_skeleton]
  unfold k0_part15_skel D14 D15
  iintro ⟨#HE, HO, ⟨C4, C5, C6, C7, C12⟩, ⟨⟨%g1, G1⟩, ⟨%g2, G2⟩, ⟨%g4, G4⟩, #R17, #R19, #R18, #Rr, #Rl⟩, ⟨T13, T14, T15⟩, ⟨T17, T18, T19⟩, Hk, Q1, Q2', Q3, Q4⟩
  ihave Q1 := (share_two _ _ _).1 $$ Q1
  icases Q1 with ⟨Q1, Q1'⟩
  ihave Q1 := (lend c qL (qHi qL).view.set (View.set_slice_subset _ _) qA (I.wq (lt c))).1 $$ Q1
  icases Q1 with ⟨Q1, Q1''⟩
  ihave Q3 := (share_two _ _ _).1 $$ Q3
  icases Q3 with ⟨Q3, Q3'⟩
  ihave Q3 := (lend c oL (oHi oL).view.set (View.set_slice_subset _ _) qA (I.wo (lt c))).1 $$ Q3
  icases Q3 with ⟨Q3, Q3''⟩
  ihave Q4 := (share_two _ _ _).1 $$ Q4
  icases Q4 with ⟨Q4, Q4'⟩
  ihave Q4 := (lend c oR (oLo oR).view.set (View.set_slice_subset _ _) qA (I.wo (rt c))).1 $$ Q4
  icases Q4 with ⟨Q4, Q4''⟩
  iapply (step_send I K c (rt c) _ (dev8_eq c) 13 17 (by decide) (by decide) rfl 7 rfl (qHi qL) (qHi qO) rfl qA (I.wq (lt c)) g1 (Entails.refl _) (pay17 I c g1))
    $$ HE Q1 G1 HO T13 T17 R17
  iintro ⟨C13, HO⟩
  iapply (step_send I K c (lt c) _ (dev9_eq c) 14 18 (by decide) (by decide) rfl 8 rfl (oLo oR) (oLo oO) rfl qA (I.wo (rt c)) g4 (Entails.refl _) (pay18 I c g4))
    $$ HE Q4 G4 HO T14 T18 R18
  iintro ⟨C14, HO⟩
  iapply (step_send I K c (rt c) _ (dev10_eq c) 15 19 (by decide) (by decide) rfl 9 rfl (oHi oL) (oHi oO) rfl qA (I.wo (lt c)) g2 (Entails.refl _) (pay19 I c g2))
    $$ HE Q3 G2 HO T15 T19 R19
  iintro ⟨C15, HO⟩
  ihave Q1' := (Entails.of_eq (show mp c qL fullShare.right (I.wq (lt c)) = mw c qL fullShare.right (I.wq (lt c)) by unfold mp mw; rw [View.set_whole])) $$ Q1'
  ihave Q2' := (Entails.of_eq (show mp c qR fullShare.right (I.wq (rt c)) = mw c qR fullShare.right (I.wq (rt c)) by unfold mp mw; rw [View.set_whole])) $$ Q2'
  ihave Q3' := (Entails.of_eq (show mp c oL fullShare.right (I.wo (lt c)) = mw c oL fullShare.right (I.wo (lt c)) by unfold mp mw; rw [View.set_whole])) $$ Q3'
  ihave Q4' := (Entails.of_eq (show mp c oR fullShare.right (I.wo (rt c)) = mw c oR fullShare.right (I.wo (rt c)) by unfold mp mw; rw [View.set_whole])) $$ Q4'
  iapply (step_load c qL Finset.univ (Finset.subset_univ _) fullShare.right (I.wq (lt c))) $$ Q1'
  iintro Q1'
  iapply (step_load c oL Finset.univ (Finset.subset_univ _) fullShare.right (I.wo (lt c))) $$ Q3'
  iintro Q3'
  iapply (step_ret c)
  isplitr; · iexact HE
  isplitl [HO]; · iexact HO
  isplitl [C4 C5 C6 C7 C12 C13 C14 C15 Hk Q1'' Q3'' Q4'']
  · isplitl [C4 C5 C6 C7 C12 C13 C14 C15]
    · isplitl [C4 C5 C6 C7]
      · isplitl [C4]; · iexact C4
        isplitl [C5]; · iexact C5
        isplitl [C6]; · iexact C6
        iexact C7
      · isplitl [C12]; · iexact C12
        isplitl [C13]; · iexact C13
        isplitl [C14]; · iexact C14
        iexact C15
    isplitr
    · isplitr; · iexact Rr
      iexact Rl
    isplitl [Hk]; · iexact Hk
    isplitl [Q1'']; · iexact Q1''
    isplitl [Q4'']; · iexact Q4''
    iexact Q3''
  isplitl [Q1']; · iexact Q1'
  isplitl [Q2']; · iexact Q2'
  isplitl [Q3']; · iexact Q3'
  isplitl [Q4']; · iexact Q4'
  ipureintro
  exact ⟨Memref.readAt_unit_zero (Elt F) cc0_scratch0 (off := ![0, 0]) (by decide) inb_S768x512_S768x512_0_0 (I.wq (lt c)),
    Memref.readAt_unit_zero (Elt F) cc0_scratch3 (off := ![0, 0]) (by decide) inb_S512x768_S512x768_0_0 (I.wo (lt c))⟩

/-- The second phase's receives waited for, their halves joined, and the load of the opposite device's Wq. -/
theorem run_part34 (c : Dev nD) (v13 v24 v1089 c0 : BitVec 32) :
    iprop(env I K c ∗ debt c 10 ∗ N34 (F := F) c)
    ⊢ wp frame (wpE (defs₀ (F := F)) 𝒱 (c : Thread nD τ) none) Set.univ (atArgs (k0_part34 (F := F)) v13 v24 v1089 c0)
        fun r => iprop(env I K c ∗ debt c 10 ∗ D34 (F := F) c ∗ mw c qO fullShare (I.wq (op c)) ∗ mw c oO fullShare (I.wo (op c))
          ∗ ⌜r = I.wq (op c)⌝) := by
  rw [k0_part34_eq_skeleton]
  unfold k0_part34_skel N34 D34
  iintro ⟨#HE, HO, ⟨C16, C17, C18, C19⟩, ⟨P16, P17, P18, P19⟩⟩
  iapply (step_get I K c 16 (by decide) 10 4 high10 (by decide) (qLo qR) (qLo qO) rfl (mp c (qLo qO) fullShare (I.wq (op c))) rfl) $$ HE C16 HO P16
  iintro ⟨HO, P16, Q1⟩
  iapply (step_get I K c 17 (by decide) 10 4 high10 (by decide) (qHi qL) (qHi qO) rfl (mp c (qHi qO) fullShare (I.wq (op c))) rfl) $$ HE C17 HO P17
  iintro ⟨HO, P17, Q2⟩
  iapply (step_get I K c 18 (by decide) 10 4 high10 (by decide) (oLo oR) (oLo oO) rfl (mp c (oLo oO) fullShare (I.wo (op c))) rfl) $$ HE C18 HO P18
  iintro ⟨HO, P18, Q3⟩
  iapply (step_get I K c 19 (by decide) 10 4 high10 (by decide) (oHi oL) (oHi oO) rfl (mp c (oHi oO) fullShare (I.wo (op c))) rfl) $$ HE C19 HO P19
  iintro ⟨HO, P19, Q4⟩
  ihave Q1 := (qO_halves c (I.wq (op c))).2 $$ [Q1 Q2]
  · isplitl [Q1]; · iexact Q1
    iexact Q2
  ihave Q3 := (oO_halves c (I.wo (op c))).2 $$ [Q3 Q4]
  · isplitl [Q3]; · iexact Q3
    iexact Q4
  ihave Q1 := (Entails.of_eq (show mp c qO fullShare (I.wq (op c)) = mw c qO fullShare (I.wq (op c)) by unfold mp mw; rw [View.set_whole])) $$ Q1
  ihave Q3 := (Entails.of_eq (show mp c oO fullShare (I.wo (op c)) = mw c oO fullShare (I.wo (op c)) by unfold mp mw; rw [View.set_whole])) $$ Q3
  iapply (step_load c qO Finset.univ (Finset.subset_univ _) fullShare (I.wq (op c))) $$ Q1
  iintro Q1
  iapply (step_ret c)
  isplitr; · iexact HE
  isplitl [HO]; · iexact HO
  isplitl [P16 P17 P18 P19]
  · isplitl [P16]; · iexact P16
    isplitl [P17]; · iexact P17
    isplitl [P18]; · iexact P18
    iexact P19
  isplitl [Q1]; · iexact Q1
  isplitl [Q3]; · iexact Q3
  ipureintro
  exact Memref.readAt_unit_zero (Elt F) cc0_scratch2 (off := ![0, 0]) (by decide) inb_S768x512_S768x512_0_0 (I.wq (op c))

/-- The waits for the sends, all but the last. -/
theorem run_part44 (c : Dev nD) :
    iprop(env I K c ∗ debt c 10 ∗ D15 I c ∗ N44 (F := F) c)
    ⊢ wp frame (wpE (defs₀ (F := F)) 𝒱 (c : Thread nD τ) none) Set.univ (atArgs (k0_part44 (F := F)))
        fun _ => iprop(env I K c ∗ debt c 10 ∗ D44 I c) := by
  rw [k0_part44_eq_skeleton]
  unfold k0_part44_skel D15 N44 D44
  iintro ⟨#HE, HO, ⟨⟨⟨C4, C5, C6, C7⟩, ⟨C12, C13, C14, C15⟩⟩, Hf, Hk, Hr⟩, ⟨P4, P5, P6, P7⟩, ⟨P12, P13, P14, P15⟩⟩
  iapply (step_get I K c 4 (by decide) 10 4 high10 (by decide) qL wqM rfl (mp c wqM qA (I.wq c)) rfl) $$ HE C4 HO P4
  iintro ⟨HO, P4, Q4⟩
  iapply (step_get I K c 5 (by decide) 10 4 high10 (by decide) qR wqM rfl (mp c wqM qB (I.wq c)) rfl) $$ HE C5 HO P5
  iintro ⟨HO, P5, Q5⟩
  iapply (step_get I K c 6 (by decide) 10 4 high10 (by decide) oL woM rfl (mp c woM qA (I.wo c)) rfl) $$ HE C6 HO P6
  iintro ⟨HO, P6, Q6⟩
  iapply (step_get I K c 7 (by decide) 10 4 high10 (by decide) oR woM rfl (mp c woM qB (I.wo c)) rfl) $$ HE C7 HO P7
  iintro ⟨HO, P7, Q7⟩
  iapply (step_get I K c 12 (by decide) 10 4 high10 (by decide) (qLo qO) (qLo qR) rfl (mp c (qLo qR) qA (I.wq (rt c))) rfl) $$ HE C12 HO P12
  iintro ⟨HO, P12, Q12⟩
  iapply (step_get I K c 13 (by decide) 10 4 high10 (by decide) (qHi qO) (qHi qL) rfl (mp c (qHi qL) qA (I.wq (lt c))) rfl) $$ HE C13 HO P13
  iintro ⟨HO, P13, Q13⟩
  iapply (step_get I K c 14 (by decide) 10 4 high10 (by decide) (oLo oO) (oLo oR) rfl (mp c (oLo oR) qA (I.wo (rt c))) rfl) $$ HE C14 HO P14
  iintro ⟨HO, P14, Q14⟩
  iapply (step_ret c)
  isplitr; · iexact HE
  isplitl [HO]; · iexact HO
  isplitl [P4 P5 P6 P7]
  · isplitl [P4]; · iexact P4
    isplitl [P5]; · iexact P5
    isplitl [P6]; · iexact P6
    iexact P7
  isplitl [P12 P13 P14 P15]
  · isplitl [P12]; · iexact P12
    isplitl [P13]; · iexact P13
    isplitl [P14]; · iexact P14
    iexact P15
  isplitl [C15]; · iexact C15
  isplitl [Hf]; · iexact Hf
  isplitl [Hk]; · iexact Hk
  isplitl [Hr]; · iexact Hr
  isplitl [Q4 Q5 Q6 Q7]
  · isplitl [Q4]; · iexact Q4
    isplitl [Q5]; · iexact Q5
    isplitl [Q6]; · iexact Q6
    iexact Q7
  isplitl [Q12]; · iexact Q12
  isplitl [Q13]; · iexact Q13
  iexact Q14

end Cert.Attn

end
-- ==== Proof.Val.lean ====
/- What a device computes, chunk by chunk, and what it leaves in the result's buffer. -/
module

public import proofs.«01_k».proof.Proof.State
public import Idealize.ShloMosaic.Lib.Pipeline.FrameBody

@[expose] public section

set_option maxRecDepth 16384

noncomputable section

namespace Cert.Attn

open Idealize.ShloMosaic Idealize.ShloMosaic.TcCoe
open Cert.KernelIdeal Cert.KernelIdeal.Gen

variable {F : FTy → Type} [FloatOps F]

/-- One head: the masked weights of its scores, their product with the values, over the rows' sums. -/
def headOf (mask : FVec F S512x512 .f32) (q k v : FVec F S512x64 .bf16) : FVec F S512x64 .bf16 :=
  let w : FVec F S512x512 .f32 :=
    mulf (exp (matmul dot_S512x64_S512x64_S512x512_1_1_0_0_n_n none q k (constant S512x512 .f32 0x00000000#32))) mask
  truncf .bf16 (mulf
    (matmul dot_S512x512_S512x64_S512x64_1_0_0_1_n_n none (truncf .bf16 w bitsLt_bf16_f32) v (constant S512x64 .f32 0x00000000#32))
    (broadcastTo S512x64 (divf (broadcast S512x1 (Scalar.ofBits .f32 0x3F800000#32))
      (shapeCast S512x1 (multiReduction .add [1] S512 w 0x00000000#32 reduces_S512x512_S512 (.inl rfl) rfl) shapeCasts_S512_S512x1))
      broadcasts_S512x1_S512x64)) bitsLt_bf16_f32

/-- The queries of a chunk: a block of rows against the chunk's columns of Wq. -/
def qOf (wq : FVec F S768x512 .bf16) (xb : FVec F S1x512x768 .bf16) : FVec F S512x512 .bf16 :=
  truncf .bf16 (matmul dot_S512x768_S768x512_S512x512_1_0_0_1_n_n none (shapeCast S512x768 xb shapeCasts_S1x512x768_S512x768) wq
    (constant S512x512 .f32 0x00000000#32)) bitsLt_bf16_f32

/-- A head of a chunk, from the chunk's queries and the head's loads of K and V. -/
def headAt (o : Fin 2 → ℕ) (h : S512x512.Slices o S512x64) (q : FVec F S512x512 .bf16) (k v : FVec F S1x1x512x64 .bf16) : FVec F S512x64 .bf16 :=
  headOf k0_pay1 (extractStridedSlice S512x64 o q h) (shapeCast S512x64 k shapeCasts_S1x1x512x64_S512x64)
    (shapeCast S512x64 v shapeCasts_S1x1x512x64_S512x64)

/-- A chunk's eight heads side by side. -/
def headsOf (q : FVec F S512x512 .bf16) (k v : Fin 8 → FVec F S1x1x512x64 .bf16) : FVec F S512x512 .bf16 :=
  concatenate S512x512 1 [⟨S512x64, headAt ![0, 0] slices_S512x512_o0_0_S512x64 q (k 0) (v 0)⟩,
    ⟨S512x64, headAt ![0, 64] slices_S512x512_o0_64_S512x64 q (k 1) (v 1)⟩,
    ⟨S512x64, headAt ![0, 128] slices_S512x512_o0_128_S512x64 q (k 2) (v 2)⟩,
    ⟨S512x64, headAt ![0, 192] slices_S512x512_o0_192_S512x64 q (k 3) (v 3)⟩,
    ⟨S512x64, headAt ![0, 256] slices_S512x512_o0_256_S512x64 q (k 4) (v 4)⟩,
    ⟨S512x64, headAt ![0, 320] slices_S512x512_o0_320_S512x64 q (k 5) (v 5)⟩,
    ⟨S512x64, headAt ![0, 384] slices_S512x512_o0_384_S512x64 q (k 6) (v 6)⟩,
    ⟨S512x64, headAt ![0, 448] slices_S512x512_o0_448_S512x64 q (k 7) (v 7)⟩]
    concatenates_S512x64_S512x64_S512x64_S512x64_S512x64_S512x64_S512x64_S512x64_S512x512_d1

/-- A chunk's share of a block of the result: its heads against the chunk's rows of Wo. -/
def chunkOf (wq : FVec F S768x512 .bf16) (wo : FVec F S512x768 .bf16) (xb : FVec F S1x512x768 .bf16) (k v : Fin 8 → FVec F S1x1x512x64 .bf16) :
    FVec F S512x768 .f32 :=
  matmul dot_S512x512_S512x768_S512x768_1_0_0_1_n_n none (headsOf (qOf wq xb) k v) wo (constant S512x768 .f32 0x00000000#32)

variable (I : Ins F)

theorem x_inb (b : Fin 2) : ∀ a, (![b.val, 0, 0] : Fin 3 → ℕ) a + S1x512x768.size a ≤ S2x512x768.size a := by
  intro a; fin_cases b <;> fin_cases a <;> decide
theorem head_inb (j : Fin 4) (b : Fin 2) (h : Fin 8) :
    ∀ a, (![j.val, b.val, 0, 64 * h.val] : Fin 4 → ℕ) a + S1x1x512x64.size a ≤ S4x2x512x512.size a := by
  revert j b h; decide

/-- The rectangle of block `b`. -/
abbrev rows (b : Fin 2) : Rect S2x512x768 := Rect.unit (s := S2x512x768) ![b.val, 0, 0] S1x512x768.size (x_inb b)
/-- Block `b` of the rows device `c` holds. -/
def xAt (c : Dev nD) (b : Fin 2) : FVec F S1x512x768 .bf16 := xM.view.readAt (Elt F) (rows b).toLoadRect (I.x c)
/-- Head `h` of block `b` in slot `j` of a scratch buffer. -/
def slotAt (M : Memref sig .tc .vmem S4x2x512x512 .bf16) (c : Dev nD) (f : Buf (Elt F) (M.view.loc (c : Thread nD τ))) (j : Fin 4) (b : Fin 2) (h : Fin 8) :
    FVec F S1x1x512x64 .bf16 :=
  M.view.readAt (Elt F) (Rect.unit (s := S4x2x512x512) ![j.val, b.val, 0, 64 * h.val] S1x1x512x64.size (head_inb j b h)).toLoadRect f

/-- Chunk `j`'s share of block `b` on device `c`. -/
def part (c : Dev nD) (b : Fin 2) (wq : FVec F S768x512 .bf16) (wo : FVec F S512x768 .bf16) (j : Fin 4) : FVec F S512x768 .f32 :=
  chunkOf wq wo (xAt I c b) (slotAt kM c (filled c (I.kh c)) j b) (slotAt vM c (filled c (I.vh c)) j b)

/-- A block in the buffer's shape, and back. -/
abbrev lay (v : FVec F S512x768 .f32) : FVec F S1x512x768 .f32 := shapeCast S1x512x768 v shapeCasts_S512x768_S1x512x768
abbrev flat (v : FVec F S1x512x768 .f32) : FVec F S512x768 .f32 := shapeCast S512x768 v shapeCasts_S1x512x768_S512x768

/-- The right neighbour's weights, as a whole load of the buffers they landed in. -/
def wqR (c : Dev nD) : FVec F S768x512 .bf16 :=
  qR.view.readAt (Elt F) (Rect.unit (s := S768x512) ![0, 0] S768x512.size inb_S768x512_S768x512_0_0).toLoadRect (I.wq (rt c))
def woR (c : Dev nD) : FVec F S512x768 .bf16 :=
  oR.view.readAt (Elt F) (Rect.unit (s := S512x768) ![0, 0] S512x768.size inb_S512x768_S512x768_0_0).toLoadRect (I.wo (rt c))
theorem wqR_eq (c : Dev nD) : wqR I c = I.wq (rt c) :=
  Memref.readAt_unit_zero (Elt F) cc0_scratch1 (off := ![0, 0]) (by decide) inb_S768x512_S768x512_0_0 (I.wq (rt c))
theorem woR_eq (c : Dev nD) : woR I c = I.wo (rt c) :=
  Memref.readAt_unit_zero (Elt F) cc0_scratch4 (off := ![0, 0]) (by decide) inb_S512x768_S512x768_0_0 (I.wo (rt c))

/-- What block `b` of the result holds after the own chunk, the left, the right and the opposite. -/
def acc0 (c : Dev nD) (b : Fin 2) : FVec F S1x512x768 .f32 := lay (part I c b (k0_pay2 (I.wq c)) (k0_pay3 (I.wo c)) 0)
def acc1 (c : Dev nD) (b : Fin 2) : FVec F S1x512x768 .f32 := lay (addf (flat (acc0 I c b)) (part I c b (I.wq (lt c)) (I.wo (lt c)) 1))
def acc2 (c : Dev nD) (b : Fin 2) : FVec F S1x512x768 .f32 := lay (addf (flat (acc1 I c b)) (part I c b (wqR I c) (woR I c) 2))
def acc3 (c : Dev nD) (b : Fin 2) : FVec F S1x512x768 .f32 := lay (addf (flat (acc2 I c b)) (part I c b (I.wq (op c)) (I.wo (op c)) 3))

/-! ## The result's buffer, written block by block -/

/-- Two rectangles that cover a buffer: what was stored before them does not matter. -/
theorem canon_cover {s : Shape} {e : EltTy} (r r' : Rect s) (hc : ∀ y, y ∈ r.set ∨ y ∈ r'.set) (a : r.shape.Idx → Elt F e) (b : r'.shape.Idx → Elt F e)
    (L : List (View.Piece (Elt F) s e)) (y : s.Idx) :
    View.canon (⟨r, a⟩ :: ⟨r', b⟩ :: L) y = View.canon [⟨r, a⟩, ⟨r', b⟩] y := by
  by_cases h1 : y ∈ r.set
  · obtain ⟨x, rfl⟩ : ∃ x, r.emb x = y := r.exists_idx_of_mem h1
    rw [View.canon_cons_emb, View.canon_cons_emb]
  · rw [View.canon_cons_of_not_mem ⟨r, a⟩ (⟨r', b⟩ :: L) h1, View.canon_cons_of_not_mem ⟨r, a⟩ [⟨r', b⟩] h1]
    obtain ⟨x, rfl⟩ : ∃ x, r'.emb x = y := r'.exists_idx_of_mem ((hc y).resolve_left h1)
    rw [View.canon_cons_emb, View.canon_cons_emb]

/-- So a buffer both were stored to reads as they say. -/
theorem read_cover {s : Shape} {e : EltTy} {sp : Space} (v : View sig .tc sp s e) (f : v.ty.Contents (Elt F)) (r r' : Rect s)
    (hc : ∀ y, y ∈ r.set ∨ y ∈ r'.set) (a : r.shape.Idx → Elt F e) (b : r'.shape.Idx → Elt F e) (L : List (View.Piece (Elt F) s e)) :
    v.read (Elt F) (v.writes (Elt F) f (⟨r, a⟩ :: ⟨r', b⟩ :: L)) = View.canon [⟨r, a⟩, ⟨r', b⟩] := by
  funext y
  rw [View.read_writes_apply_eq_canon v f y (⟨r, a⟩ :: ⟨r', b⟩ :: L) (by
    rcases hc y with h | h
    · exact ⟨_, List.mem_cons_self, h⟩
    · exact ⟨_, List.mem_cons_of_mem _ List.mem_cons_self, h⟩)]
  exact canon_cover r r' hc a b L y

/-- The two blocks of the result. -/
abbrev r0 : Rect S2x512x768 := Rect.unit (s := S2x512x768) ![0, 0, 0] S1x512x768.size inb_S2x512x768_S1x512x768_0_0_0
abbrev r1 : Rect S2x512x768 := Rect.unit (s := S2x512x768) ![1, 0, 0] S1x512x768.size inb_S2x512x768_S1x512x768_1_0_0

/-- A block is the positions with its first coordinate. -/
theorem r0_mem (i : S2x512x768.Idx) : i ∈ r0.set ↔ (i 0).val = 0 := by
  rw [Rect.mem_set_unit]
  have h1 : (i 1).val < 512 := (i 1).isLt
  have h2 : (i 2).val < 768 := (i 2).isLt
  constructor
  · intro h
    have := h 0
    change 0 ≤ (i 0).val ∧ (i 0).val < 0 + 1 at this
    omega
  · intro h a
    fin_cases a
    · show 0 ≤ (i 0).val ∧ (i 0).val < 0 + 1; omega
    · show 0 ≤ (i 1).val ∧ (i 1).val < 0 + 512; omega
    · show 0 ≤ (i 2).val ∧ (i 2).val < 0 + 768; omega
theorem r1_mem (i : S2x512x768.Idx) : i ∈ r1.set ↔ (i 0).val = 1 := by
  rw [Rect.mem_set_unit]
  have h1 : (i 1).val < 512 := (i 1).isLt
  have h2 : (i 2).val < 768 := (i 2).isLt
  constructor
  · intro h
    have := h 0
    change 1 ≤ (i 0).val ∧ (i 0).val < 1 + 1 at this
    omega
  · intro h a
    fin_cases a
    · show 1 ≤ (i 0).val ∧ (i 0).val < 1 + 1; omega
    · show 0 ≤ (i 1).val ∧ (i 1).val < 0 + 512; omega
    · show 0 ≤ (i 2).val ∧ (i 2).val < 0 + 768; omega

theorem r_disj : Disjoint r0.set r1.set := by
  rw [Finset.disjoint_left]; intro i; rw [r0_mem, r1_mem]; omega
theorem r_cover (i : S2x512x768.Idx) : i ∈ r1.set ∨ i ∈ r0.set := by
  rw [r0_mem, r1_mem]; have h : (i 0).val < 2 := (i 0).isLt; omega

section
variable (f : Buf (Elt F) (outM.view.loc ((0 : Dev nD) : Thread nD τ)))

/-- What the last store to a block left there, whatever was stored to the other block since. -/
theorem get0 (w : r0.shape.Idx → Elt F .f32) (L : List (View.Piece (Elt F) S2x512x768 .f32)) :
    outM.view.readAt (Elt F) r0.toLoadRect (outM.view.writes (Elt F) f (⟨r0, w⟩ :: L)) = w := by
  funext x
  exact View.read_writes_cons_emb outM.view f r0 w L x
theorem cov0 (w : r0.shape.Idx → Elt F .f32) (L : List (View.Piece (Elt F) S2x512x768 .f32)) :
    outM.view.readCov (⟨r0, w⟩ :: L) r0.toLoadRect = w := View.readCov_cons_toLoadRect _ _ _ _
theorem cov1 (w : r1.shape.Idx → Elt F .f32) (L : List (View.Piece (Elt F) S2x512x768 .f32)) :
    outM.view.readCov (⟨r1, w⟩ :: L) r1.toLoadRect = w := View.readCov_cons_toLoadRect _ _ _ _
theorem cov01 (w : r1.shape.Idx → Elt F .f32) (L : List (View.Piece (Elt F) S2x512x768 .f32)) :
    outM.view.readCov (⟨r1, w⟩ :: L) r0.toLoadRect = outM.view.readCov L r0.toLoadRect :=
  View.readCov_cons_of_disjoint _ _ _ _ r_disj.symm
theorem cov10 (w : r0.shape.Idx → Elt F .f32) (L : List (View.Piece (Elt F) S2x512x768 .f32)) :
    outM.view.readCov (⟨r0, w⟩ :: L) r1.toLoadRect = outM.view.readCov L r1.toLoadRect :=
  View.readCov_cons_of_disjoint _ _ _ _ r_disj
theorem get1 (w : r1.shape.Idx → Elt F .f32) (L : List (View.Piece (Elt F) S2x512x768 .f32)) :
    outM.view.readAt (Elt F) r1.toLoadRect (outM.view.writes (Elt F) f (⟨r1, w⟩ :: L)) = w := by
  funext x
  exact View.read_writes_cons_emb outM.view f r1 w L x
theorem get10 (w : r0.shape.Idx → Elt F .f32) (L : List (View.Piece (Elt F) S2x512x768 .f32)) :
    outM.view.readAt (Elt F) r1.toLoadRect (outM.view.writes (Elt F) f (⟨r0, w⟩ :: L))
      = outM.view.readAt (Elt F) r1.toLoadRect (outM.view.writes (Elt F) f L) := by
  funext x
  refine View.read_slice_write_of_not_mem (v := outM.view) r0 _ _ _ fun hm => ?_
  rw [Rect.map_emb_univ] at hm
  exact Finset.disjoint_left.mp r_disj hm (r1.toLoadRect.idx_mem x)
theorem get01 (w : r1.shape.Idx → Elt F .f32) (L : List (View.Piece (Elt F) S2x512x768 .f32)) :
    outM.view.readAt (Elt F) r0.toLoadRect (outM.view.writes (Elt F) f (⟨r1, w⟩ :: L))
      = outM.view.readAt (Elt F) r0.toLoadRect (outM.view.writes (Elt F) f L) := by
  funext x
  refine View.read_slice_write_of_not_mem (v := outM.view) r1 _ _ _ fun hm => ?_
  rw [Rect.map_emb_univ] at hm
  exact Finset.disjoint_left.mp r_disj.symm hm (r0.toLoadRect.idx_mem x)
/-- A store is one more piece. -/
theorem store_piece (r : Rect S2x512x768) (w : r.shape.Idx → Elt F .f32) :
    View.write (Elt F) (outM.access r) f w Finset.univ = outM.view.writes (Elt F) f [⟨r, w⟩] := rfl
theorem put_piece (r : Rect S2x512x768) (w : r.shape.Idx → Elt F .f32) (L L' : List (View.Piece (Elt F) S2x512x768 .f32)) :
    outM.view.writes (Elt F) (outM.view.writes (Elt F) f [⟨r, w⟩]) L = outM.view.writes (Elt F) f (L ++ [⟨r, w⟩]) := by
  induction L with
  | nil => rfl
  | cons p L ih => exact congrArg (fun g => View.write (Elt F) (outM.view.slice p.fst) g p.snd Finset.univ) ih

/-- With both blocks stored last, what the buffer holds. -/
theorem whole_blocks (a : r1.shape.Idx → Elt F .f32) (b : r0.shape.Idx → Elt F .f32) (L : List (View.Piece (Elt F) S2x512x768 .f32)) :
    @Eq (FVec F S2x512x768 .f32) (outM.view.writes (Elt F) f (⟨r1, a⟩ :: ⟨r0, b⟩ :: L)) (View.canon (Val := Elt F) (e := .f32) [⟨r1, a⟩, ⟨r0, b⟩]) := by
  have h := read_cover outM.view f r1 r0 r_cover a b L
  rw [← h]
  generalize outM.view.writes (Elt F) f (⟨r1, a⟩ :: ⟨r0, b⟩ :: L) = g
  exact (View.read_whole cc0_stg3_0 g).symm
end

/-- The result on device `c`: each block with all four chunks' shares. -/
def outF (c : Dev nD) : FVec F S2x512x768 .f32 :=
  View.canon (Val := Elt F) (e := .f32) [⟨r1, acc3 I c 1⟩, ⟨r0, acc3 I c 0⟩]

end Cert.Attn

end
-- ==== Proof.Body.lean ====
/- The body of the call on one device, run from what it is given to what it leaves. -/
module

public import proofs.«01_k».proof.Proof.Talk1
public import proofs.«01_k».proof.Proof.Talk3
public import proofs.«01_k».proof.Proof.Talk4
public import proofs.«01_k».proof.Proof.Val

@[expose] public section

set_option maxRecDepth 16384

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Ins F) (K : GSem nD τ sig → ℕ)

/-- What the final signals and the final wait need. -/
def NF (c : Dev nD) : sProp 𝕄 :=
  iprop(place c (.reg 1) 0 ∗ cred (tallyAt (finC c) () 2) ∗ dutyTok ER (finC (lt c)) 0 false ∗ dutyTok ER (finC (rt c)) 0 true)

/-- After the last wait for a send: everything lent out of the own buffers is back. -/
def D45 (c : Dev nD) : sProp 𝕄 :=
  iprop((place c (.dma 4) 1 ∗ place c (.dma 5) 1 ∗ place c (.dma 6) 1 ∗ place c (.dma 7) 1)
    ∗ (place c (.dma 12) 1 ∗ place c (.dma 13) 1 ∗ place c (.dma 14) 1 ∗ place c (.dma 15) 1)
    ∗ kept I c
    ∗ (mrest c qL (qHi qL).view.set qA (I.wq (lt c)) ∗ mrest c oR (oLo oR).view.set qA (I.wo (rt c)) ∗ mrest c oL (oHi oL).view.set qA (I.wo (lt c)))
    ∗ (mp c wqM qA (I.wq c) ∗ mp c wqM qB (I.wq c) ∗ mp c woM qA (I.wo c) ∗ mp c woM qB (I.wo c))
    ∗ (mp c (qLo qR) qA (I.wq (rt c)) ∗ mp c (qHi qL) qA (I.wq (lt c)) ∗ mp c (oLo oR) qA (I.wo (rt c)) ∗ mp c (oHi oL) qA (I.wo (lt c))))

/-- The four slots of the scratch buffers, as the copies left them. -/
def slots (c : Dev nD) : sProp 𝕄 :=
  iprop((slotW (M := kM) c ![0, 0, 0, 0] inb_S4x2x512x512_S1x2x512x512_0_0_0_0 (filled c (I.kh c))
      ∗ slotW (M := kM) c ![1, 0, 0, 0] inb_S4x2x512x512_S1x2x512x512_1_0_0_0 (filled c (I.kh c))
      ∗ slotW (M := kM) c ![2, 0, 0, 0] inb_S4x2x512x512_S1x2x512x512_2_0_0_0 (filled c (I.kh c))
      ∗ slotW (M := kM) c ![3, 0, 0, 0] inb_S4x2x512x512_S1x2x512x512_3_0_0_0 (filled c (I.kh c)))
    ∗ (slotW (M := vM) c ![0, 0, 0, 0] inb_S4x2x512x512_S1x2x512x512_0_0_0_0 (filled c (I.vh c))
      ∗ slotW (M := vM) c ![1, 0, 0, 0] inb_S4x2x512x512_S1x2x512x512_1_0_0_0 (filled c (I.vh c))
      ∗ slotW (M := vM) c ![2, 0, 0, 0] inb_S4x2x512x512_S1x2x512x512_2_0_0_0 (filled c (I.vh c))
      ∗ slotW (M := vM) c ![3, 0, 0, 0] inb_S4x2x512x512_S1x2x512x512_3_0_0_0 (filled c (I.vh c))))

/-- What the body leaves. -/
def bodyPost (c : Dev nD) : sProp 𝕄 :=
  iprop(debt c 12 ∗ place c (.reg 1) 1 ∗ (done I c 0 ∗ done I c 1 ∗ done I c 2 ∗ done I c 3) ∗ D34 (F := F) c ∗ D45 I c ∗ slots I c
    ∗ (mw c qL fullShare.right (I.wq (lt c)) ∗ mw c qR fullShare.right (I.wq (rt c)) ∗ mw c oL fullShare.right (I.wo (lt c)) ∗ mw c oR fullShare.right (I.wo (rt c)))
    ∗ (mw c qO fullShare (I.wq (op c)) ∗ mw c oO fullShare (I.wo (op c)))
    ∗ mw c xM fullShare (I.x c) ∗ mw c wqM qC (I.wq c) ∗ mw c woM qC (I.wo c) ∗ mw c outM fullShare (outF I c))

theorem high12 : HighFrom 12 5 := fun c a ha => absurd (show a ∈ ([] : List (GSem nD τ sig × ℕ)) from ha) List.not_mem_nil

/-- Block 1, read after it was stored. -/
theorem over1 (f : Buf (Elt F) (outM.view.loc ((0 : Dev nD) : Thread nD τ))) (w : r1.shape.Idx → Elt F .f32) :
    outM.view.readAt (Elt F) r1.toLoadRect (View.write (Elt F) (outM.access r1) f w Finset.univ) = w := get1 f w []
/-- Block 0, read after block 1 was stored. -/
theorem over0 (f : Buf (Elt F) (outM.view.loc ((0 : Dev nD) : Thread nD τ))) (w : r1.shape.Idx → Elt F .f32) :
    outM.view.readAt (Elt F) r0.toLoadRect (View.write (Elt F) (outM.access r1) f w Finset.univ)
      = outM.view.readAt (Elt F) r0.toLoadRect f := get01 f w []

/-- Both blocks stored last, each with what it should hold, whatever lay beneath. -/
theorem blocks_eq (c : Dev nD) (f : Buf (Elt F) (outM.view.loc ((0 : Dev nD) : Thread nD τ))) (a : r1.shape.Idx → Elt F .f32)
    (b : r0.shape.Idx → Elt F .f32) (L : List (View.Piece (Elt F) S2x512x768 .f32)) (ha : a = acc3 I c 1) (hb : b = acc3 I c 0) :
    @Eq (FVec F S2x512x768 .f32) (outM.view.writes (Elt F) f (⟨r1, a⟩ :: ⟨r0, b⟩ :: L)) (outF I c) := by
  rw [whole_blocks, ha, hb]; rfl

/-- The last signals carry nothing. -/
theorem pay_fin (c : Dev nD) (b : Bool) : (emp : sProp 𝕄) ⊢ (Rd I).payload (finC c) 0 b := Entails.refl _

/-- The contents named another way. -/
theorem mw_of_eq {sp : Space} {s : Shape} {e : EltTy} (c : Dev nD) (M : Memref sig .tc sp s e) (q : PosShare TreeShare)
    (f g : Buf (Elt F) (M.view.loc (c : Thread nD τ))) (h : f = g) : mw c M q f ⊢ mw c M q g := by rw [h]

attribute [local irreducible] env need tick done N4 D4 N5 D5 N14 D14 D15 N34 D34 N44 D44 NF debt

theorem run_body (c : Dev nD) (fo : Buf (Elt F) ((outM).view.loc (c : Thread nD τ))) :
    iprop(env I K c ∗ need I c 0 ∗ need I c 1 ∗ need I c 2 ∗ need I c 3 ∗ N4 I c ∗ N5 I c ∗ N14 (F := F) c ∗ N34 (F := F) c ∗ N44 (F := F) c ∗ NF (F := F) c
      ∗ mw c xM fullShare (I.x c) ∗ mw c wqM qC (I.wq c) ∗ mw c woM qC (I.wo c) ∗ mw c outM fullShare fo)
    ⊢ wp frame (wpE (defs₀ (F := F)) 𝒱 (c : Thread nD τ) none) Set.univ (atArgs (cc0_body (F := F)))
        fun _ => bodyPost I c := by
  have h2 := run_part2 I K c
  have h3 := run_part3 I K c
  have h4 := run_part4 I K c
  have h5 := run_part5 I K c
  have h14 := run_part14 I K c
  have h15 := run_part15 I K c
  have h16 := run_part16 I K c
  have h25 := run_part25 I K c
  have h34 := run_part34 I K c
  have h35 := run_part35 I K c
  have h44 := run_part44 I K c
  dsimp only [atArgs] at h2 h3 h4 h5 h14 h15 h16 h25 h34 h35 h44 ⊢
  iintro ⟨HE, Hn0, Hn1, Hn2, Hn3, H4, H5, H14, H34, H44, HF, Hx, Hq, Hw, Hout⟩
  unfold cc0_body
  sl_exec_parts
  dsimp only at hk0_part5_8 hk0_part15_7 hk0_part16_6 hk0_part25_6 hk0_part35_7
  obtain rfl := hk0_part4_2
  obtain ⟨rfl, rfl, rfl, rfl⟩ := hk0_part5_8
  obtain ⟨rfl, rfl⟩ := hk0_part15_7
  obtain ⟨rfl, rfl, rfl⟩ := hk0_part16_6
  obtain ⟨rfl, rfl⟩ := hk0_part25_6
  obtain rfl := hk0_part34_5
  obtain ⟨rfl, rfl, rfl, rfl, rfl, rfl⟩ := hk0_part35_7
  icases Hk0_part44_0 with #HE
  unfold D44 NF
  icases Hk0_part44_2 with ⟨HP, ⟨P12, P13, P14, P15⟩, C15, ⟨#F1, #F2⟩, HK, HR, HW, Q12, Q13, Q14⟩
  icases HF with ⟨Pf, Cf, T1, T2⟩
  iapply (step_get I K c 15 (by decide) 10 4 high10 (by decide) (oHi oO) (oHi oL) rfl (mp c (oHi oL) qA (I.wo (lt c))) rfl) $$ HE C15 Hk0_part44_1 P15
  iintro ⟨HO, P15, Q15⟩
  iapply (step_ret c)
  iapply (step_signal I K c (lt c) _ (dev11_eq c) 1 false 10 (fin_mem (lt c)) rfl) $$ HE HO T1 [] []
  · iapply (pay_fin I _ _); iempintro
  · iexact F2
  iintro HO
  iapply (step_signal I K c (rt c) _ (dev12_eq c) 1 true 11 (fin_mem (rt c)) rfl) $$ HE HO T2 [] []
  · iapply (pay_fin I _ _); iempintro
  · iexact F1
  iintro HO
  iapply (step_await I K c 1 12 ((env_lev I K c).trans (mayWait c (.reg 1) 12 5 high12 (by decide))) (fin_mem c)) $$ HE Cf HO Pf
  iintro ⟨HO, Pf, -⟩
  iapply (step_ret c)
  unfold bodyPost D45 slots
  isplitl [HO]; · iexact HO
  isplitl [Pf]; · iexact Pf
  isplitl [Hk0_part5_2 Hk0_part16_2 Hk0_part25_2 Hk0_part35_2]
  · isplitl [Hk0_part5_2]; · iexact Hk0_part5_2
    isplitl [Hk0_part16_2]; · iexact Hk0_part16_2
    isplitl [Hk0_part25_2]; · iexact Hk0_part25_2
    iexact Hk0_part35_2
  isplitl [Hk0_part34_2]; · iexact Hk0_part34_2
  isplitl [HP P12 P13 P14 P15 HK HR HW Q12 Q13 Q14 Q15]
  · isplitl [HP]; · iexact HP
    isplitl [P12 P13 P14 P15]
    · isplitl [P12]; · iexact P12
      isplitl [P13]; · iexact P13
      isplitl [P14]; · iexact P14
      iexact P15
    isplitl [HK]; · iexact HK
    isplitl [HR]; · iexact HR
    isplitl [HW]; · iexact HW
    isplitl [Q12]; · iexact Q12
    isplitl [Q13]; · iexact Q13
    isplitl [Q14]; · iexact Q14
    iexact Q15
  isplitl [Hk0_part5_6 Hk0_part16_4 Hk0_part25_4 Hk0_part35_5 Hk0_part5_7 Hk0_part16_5 Hk0_part25_5 Hk0_part35_6]
  · isplitl [Hk0_part5_6 Hk0_part16_4 Hk0_part25_4 Hk0_part35_5]
    · isplitl [Hk0_part5_6]; · iexact Hk0_part5_6
      isplitl [Hk0_part16_4]; · iexact Hk0_part16_4
      isplitl [Hk0_part25_4]; · iexact Hk0_part25_4
      iexact Hk0_part35_5
    isplitl [Hk0_part5_7]; · iexact Hk0_part5_7
    isplitl [Hk0_part16_5]; · iexact Hk0_part16_5
    isplitl [Hk0_part25_5]; · iexact Hk0_part25_5
    iexact Hk0_part35_6
  isplitl [Hk0_part15_3 Hk0_part15_4 Hk0_part15_5 Hk0_part15_6]
  · isplitl [Hk0_part15_3]; · iexact Hk0_part15_3
    isplitl [Hk0_part15_4]; · iexact Hk0_part15_4
    isplitl [Hk0_part15_5]; · iexact Hk0_part15_5
    iexact Hk0_part15_6
  isplitl [Hk0_part34_3 Hk0_part35_4]
  · isplitl [Hk0_part34_3]; · iexact Hk0_part34_3
    iexact Hk0_part35_4
  isplitl [Hk0_part35_3]; · iexact Hk0_part35_3
  isplitl [Hk0_part5_4]; · iexact Hk0_part5_4
  isplitl [Hk0_part5_5]; · iexact Hk0_part5_5
  iapply (mw_of_eq c outM fullShare _ (outF I c) ?e) $$ Hk0_part14_1
  case e =>
    clear h2 h3 h4 h5 h14 h15 h16 h25 h34 h35 h44
    clear * -
    delta run_body.sl.Hk0_part14_1_5
    beta_reduce
    refine blocks_eq I c _ _ _ _ ?_ ?_
    · delta run_body.sl.v1415
      beta_reduce
      delta run_body.sl.Hk0_part14_1_5
      beta_reduce
      rw [cov10, cov1]
      delta run_body.sl.v1083
      beta_reduce
      delta run_body.sl.Hk0_part14_1_3
      beta_reduce
      rw [cov10, cov1]
      delta run_body.sl.v775
      beta_reduce
      rw [over1]
      rfl
    · delta run_body.sl.v1267
      beta_reduce
      delta run_body.sl.Hk0_part14_1_3
      beta_reduce
      rw [cov01, cov0]
      delta run_body.sl.v935
      beta_reduce
      delta run_body.sl.Hk0_part14_1_1
      beta_reduce
      rw [cov01, cov0]
      delta run_body.sl.v627
      beta_reduce
      rw [over0]
      delta run_body.sl.Hout_1
      beta_reduce
      rw [get0]
      rfl

end Cert.Attn

end
-- ==== Proof.Enter.lean ====
/- From the whole buffers, tokens and credits of one device to what its body asks for, and back. -/
module

public import proofs.«01_k».proof.Proof.Body

@[expose] public section

set_option maxRecDepth 16384

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Ins F) (K : GSem nD τ sig → ℕ)

/-- An equivalence as an equation. -/
theorem eqOf {P Q : sProp 𝕄} (h : P ⊣⊢ Q) : P = Q := equiv_iff.mp ⟨h.1, h.2⟩
theorem star_assoc_eq (P Q R : sProp 𝕄) : iprop((P ∗ Q) ∗ R) = iprop(P ∗ Q ∗ R) := equiv_iff.mp ⟨BI.sep_assoc, BI.sep_assoc'⟩

/-- Chains of `∗` are reordered as equations. -/
instance star_comm : _root_.Std.Commutative (α := sProp 𝕄) BIBase.sep := ⟨fun _ _ => equiv_iff.mp ⟨BI.sep_comm, BI.sep_comm⟩⟩
instance star_assoc : _root_.Std.Associative (α := sProp 𝕄) BIBase.sep := ⟨fun P Q R => star_assoc_eq P Q R⟩

/-- The region's semaphores one by one. -/
theorem all_sems (P : SemLoc sig → sProp 𝕄) : (bigSep Finset.univ fun j : Fin 25 => P (osem j))
    = iprop(P (.reg 1) ∗ P (.dma 4) ∗ P (.dma 5) ∗ P (.dma 6) ∗ P (.dma 7) ∗ P (.dma 8) ∗ P (.dma 9) ∗ P (.dma 10) ∗ P (.dma 11)
      ∗ P (.dma 12) ∗ P (.dma 13) ∗ P (.dma 14) ∗ P (.dma 15) ∗ P (.dma 16) ∗ P (.dma 17) ∗ P (.dma 18) ∗ P (.dma 19)
      ∗ P (.dma 20) ∗ P (.dma 21) ∗ P (.dma 22) ∗ P (.dma 23) ∗ P (.dma 24) ∗ P (.dma 25) ∗ P (.dma 26) ∗ P (.dma 27)) := by
  rw [bigSep_univ_eq_bigSepL [0, 1, 2, 3, 4, 5, 6, 7, 8, 9, 10, 11, 12, 13, 14, 15, 16, 17, 18, 19, 20, 21, 22, 23, 24]
    (by decide +kernel) (by decide +kernel)]
  rfl

/-- The tokens of the duties device `c` pays. -/
def pays (c : Dev nD) : sProp 𝕄 :=
  iprop((dutyTok ER (barC (lt c)) 0 false ∗ dutyTok ER (barC (rt c)) 0 true ∗ dutyTok ER (finC (lt c)) 0 false ∗ dutyTok ER (finC (rt c)) 0 true)
    ∗ (tok c 4 ∗ tok c 5 ∗ tok c 6 ∗ tok c 7) ∗ (tok (rt c) 8 ∗ tok (lt c) 9 ∗ tok (rt c) 10 ∗ tok (lt c) 11)
    ∗ (tok c 12 ∗ tok c 13 ∗ tok c 14 ∗ tok c 15) ∗ (tok (lt c) 16 ∗ tok (rt c) 17 ∗ tok (lt c) 18 ∗ tok (rt c) 19)
    ∗ (tok c 20 ∗ tok c 21 ∗ tok c 22 ∗ tok c 23) ∗ (tok c 24 ∗ tok c 25 ∗ tok c 26 ∗ tok c 27))
/-- The credits of the units its neighbours owe it. -/
def gets (c : Dev nD) : sProp 𝕄 :=
  iprop(cred (tallyAt (barC c) () 2) ∗ cred (tallyAt (finC c) () 2) ∗ (crd c 8 ∗ crd c 9 ∗ crd c 10 ∗ crd c 11)
    ∗ (crd c 16 ∗ crd c 17 ∗ crd c 18 ∗ crd c 19))
/-- Device `c`'s places, `r` rounds done. -/
def places (c : Dev nD) (r : ℕ) : sProp 𝕄 := iprop(place c (.reg 0) r ∗ bigSep Finset.univ fun j : Fin 25 => place c (osem j) r)
/-- The kernel's inputs, whole. -/
def inputs (c : Dev nD) : sProp 𝕄 :=
  iprop(mw c xM fullShare (I.x c) ∗ mw c wqM fullShare (I.wq c) ∗ mw c woM fullShare (I.wo c) ∗ mw c khM fullShare (I.kh c) ∗ mw c vhM fullShare (I.vh c))
/-- A whole buffer at contents not chosen. -/
abbrev mwAny {sp : Space} {s : Shape} {e : EltTy} (c : Dev nD) (M : Memref sig .tc sp s e) : sProp 𝕄 :=
  iprop(∃ f : Buf (Elt F) (M.view.loc (c : Thread nD τ)), mw c M fullShare f)
/-- The region's scratch buffers. -/
def scratch (c : Dev nD) : sProp 𝕄 :=
  iprop(mwAny c qL ∗ mwAny c qR ∗ mwAny c qO ∗ mwAny c oL ∗ mwAny c oR ∗ mwAny c oO ∗ mwAny c kM ∗ mwAny c vM)

section Parts

variable (c : Dev nD)

/-- A whole view's elements are all of its buffer's. -/
theorem mp_mw {sp : Space} {s : Shape} {e : EltTy} (M : Memref sig .tc sp s e) (hM : M.view.set = Finset.univ) (q : PosShare TreeShare)
    (f : Buf (Elt F) (M.view.loc (c : Thread nD τ))) : (mp c M q f : sProp 𝕄) = mw c M q f := by
  unfold mp mw; rw [hM]
theorem mpAny_mwAny {sp : Space} {s : Shape} {e : EltTy} (M : Memref sig .tc sp s e) (hM : M.view.set = Finset.univ) :
    (mpAny c M : sProp 𝕄) = mwAny c M := by
  unfold mpAny mwAny; exact congrArg _ (funext fun f => mp_mw c M hM fullShare f)

/-- A whole buffer in the three shares two copies and the body's loads take. -/
theorem thirds {sp : Space} {s : Shape} {e : EltTy} (M : Memref sig .tc sp s e) (hM : M.view.set = Finset.univ)
    (f : Buf (Elt F) (M.view.loc (c : Thread nD τ))) :
    (mw c M fullShare f : sProp 𝕄) = iprop(mp c M qA f ∗ mp c M qB f ∗ mw c M qC f) := by
  rw [mp_mw c M hM, mp_mw c M hM]
  exact eqOf ((share_two _ _ _).trans (sep_congr_right (share_two _ _ _)))

/-- What the four copies of columns leave of the buffer they read. -/
def colsRest (M : Memref sig .tc .hbm S2x512x2048 .bf16) (f : Buf (Elt F) (M.view.loc (c : Thread nD τ))) : sProp 𝕄 :=
  iprop(mrest c M (hcol M c 0).view.set (q4 0) f ∗ mrest c M (hcol M c 1).view.set (q4 1) f
    ∗ mrest c M (hcol M c 2).view.set (q4 2) f ∗ mrest c M (hcol M c 3).view.set (q4 3) f)

/-- A whole buffer as the columns four copies read, each at a share, and the rest. -/
theorem cols (M : Memref sig .tc .hbm S2x512x2048 .bf16) (hM : M.view.set = Finset.univ) (f : Buf (Elt F) (M.view.loc (c : Thread nD τ))) :
    (mw c M fullShare f : sProp 𝕄) = iprop((mp c (hcol M c 0) (q4 0) f ∗ mp c (hcol M c 1) (q4 1) f ∗ mp c (hcol M c 2) (q4 2) f
      ∗ mp c (hcol M c 3) (q4 3) f) ∗ colsRest c M f) := by
  have h (j : Fin 4) : (mw c M (q4 j) f : sProp 𝕄) = iprop(mp c (hcol M c j) (q4 j) f ∗ mrest c M (hcol M c j).view.set (q4 j) f) := by
    rw [← mp_mw c M hM]
    exact eqOf (lend c M (hcol M c j).view.set (by rw [hM]; exact Finset.subset_univ _) (q4 j) f)
  have e : (mw c M fullShare f : sProp 𝕄) = iprop((mw c M (q4 0) f ∗ mw c M (q4 1) f) ∗ (mw c M (q4 2) f ∗ mw c M (q4 3) f)) :=
    eqOf ((share_two _ _ _).trans (sep_congr (share_two _ _ _) (share_two _ _ _)))
  rw [e, h 0, h 1, h 2, h 3]
  unfold colsRest
  ac_rfl

/-- What was lent out of one half of a buffer, back in it. -/
theorem regain {sp : Space} {s : Shape} {e : EltTy} (M : Memref sig .tc sp s e) (hM : M.view.set = Finset.univ) (S : Finset M.view.ty.Idx)
    (f : Buf (Elt F) (M.view.loc (c : Thread nD τ))) :
    (iprop((M.view.loc (c : Thread nD τ) ↦[S]{qA} f) ∗ mrest c M S qA f ∗ mw c M fullShare.right f) : sProp 𝕄) ⊢ mwAny c M := by
  refine Entails.trans (Entails.of_eq ?_) (exists_intro f)
  rw [← star_assoc_eq, ← eqOf (lend c M S (by rw [hM]; exact Finset.subset_univ _) qA f), mp_mw c M hM]
  exact (eqOf (share_two _ _ _)).symm

end Parts

/-- The scratch buffers as the copies take them. -/
def pieces (c : Dev nD) : sProp 𝕄 :=
  iprop(lends (F := F) c ∗ (mpAny c (slot kM 0) ∗ mpAny c (slot kM 1) ∗ mpAny c (slot kM 2) ∗ mpAny c (slot kM 3))
    ∗ (mpAny c (slot vM 0) ∗ mpAny c (slot vM 1) ∗ mpAny c (slot vM 2) ∗ mpAny c (slot vM 3)))

theorem w_ (r : Ref sig .tc) : (View.whole r).set = Finset.univ := View.set_whole r

theorem scratch_pieces (c : Dev nD) : (scratch c : sProp 𝕄) ⊢ pieces (F := F) c := by
  unfold scratch pieces lends
  rw [← mpAny_mwAny c qL (w_ _), ← mpAny_mwAny c qR (w_ _), ← mpAny_mwAny c oL (w_ _), ← mpAny_mwAny c oR (w_ _),
    ← mpAny_mwAny c qO (w_ _), ← mpAny_mwAny c oO (w_ _), ← mpAny_mwAny c kM (w_ _), ← mpAny_mwAny c vM (w_ _)]
  iintro ⟨HqL, HqR, ⟨%f1, H1⟩, HoL, HoR, ⟨%f2, H2⟩, ⟨%f3, H3⟩, ⟨%f4, H4⟩⟩
  ihave H1 := (qO_halves c f1).1 $$ H1
  ihave H2 := (oO_halves c f2).1 $$ H2
  ihave H3 := (kM_slots c f3).1 $$ H3
  ihave H4 := (vM_slots c f4).1 $$ H4
  icases H1 with ⟨Ha, Hb⟩
  icases H2 with ⟨Hc, Hd⟩
  icases H3 with ⟨K0, K1, K2, K3⟩
  icases H4 with ⟨V0, V1, V2, V3⟩
  isplitl [HqL HqR HoL HoR Ha Hb Hc Hd]
  · isplitl [HqL HoL Hb Hd]
    · isplitl [HqL]; · iexact HqL
      isplitl [HoL]; · iexact HoL
      isplitl [Hb]; · iexists f1; iexact Hb
      iexists f2; iexact Hd
    isplitl [HqR]; · iexact HqR
    isplitl [HoR]; · iexact HoR
    isplitl [Ha]; · iexists f1; iexact Ha
    iexists f2; iexact Hc
  isplitl [K0 K1 K2 K3]
  · isplitl [K0]; · iexists f3; iexact K0
    isplitl [K1]; · iexists f3; iexact K1
    isplitl [K2]; · iexists f3; iexact K2
    iexists f3; iexact K3
  isplitl [V0]; · iexists f4; iexact V0
  isplitl [V1]; · iexists f4; iexact V1
  isplitl [V2]; · iexists f4; iexact V2
  iexists f4; iexact V3

/-- What the body is run from. -/
def bodyPre (c : Dev nD) : sProp 𝕄 :=
  iprop(need I c 0 ∗ need I c 1 ∗ need I c 2 ∗ need I c 3 ∗ N4 I c ∗ N5 I c ∗ N14 (F := F) c ∗ N34 (F := F) c ∗ N44 (F := F) c ∗ NF (F := F) c
      ∗ mw c xM fullShare (I.x c) ∗ mw c wqM qC (I.wq c) ∗ mw c woM qC (I.wo c))

theorem need_at (c : Dev nD) (j : Fin 4) (k v : Fin 28) (sk sv : SemLoc sig) (hk : kS j = k) (hv : vS j = v) (hsk : .dma (kS j) = sk)
    (hsv : .dma (vS j) = sv) : need I c j
    = iprop(mp c (hcol khM c j) (q4 j) (I.kh c) ∗ mp c (hcol vhM c j) (q4 j) (I.vh c) ∗ mpAny c (slot kM j) ∗ mpAny c (slot vM j)
      ∗ tok c k ∗ tok c v ∗ place c sk 0 ∗ place c sv 0) := by
  subst hk hv hsk hsv; rfl
theorem done_at (c : Dev nD) (j : Fin 4) (sk sv : SemLoc sig) (hsk : .dma (kS j) = sk) (hsv : .dma (vS j) = sv) : done I c j
    = iprop(mp c (hcol khM c j) (q4 j) (I.kh c) ∗ mp c (hcol vhM c j) (q4 j) (I.vh c) ∗ place c sk 1 ∗ place c sv 1) := by
  subst hsk hsv; rfl

/-- What a device is given, in the form its body takes, and what stays aside. -/
theorem enter (c : Dev nD) : (iprop(debt c 0 ∗ places c 0 ∗ gets c ∗ pays c ∗ inputs I c ∗ pieces (F := F) c) : sProp 𝕄)
    = iprop(bodyPre I c ∗ colsRest c khM (I.kh c) ∗ colsRest c vhM (I.vh c)) := by
  unfold places
  rw [all_sems fun sm => place c sm 0]
  unfold inputs
  rw [thirds c wqM (w_ _), thirds c woM (w_ _), cols c khM (w_ _), cols c vhM (w_ _)]
  unfold bodyPre
  rw [need_at I c 0 20 24 (.dma 20) (.dma 24) rfl rfl rfl rfl, need_at I c 1 21 25 (.dma 21) (.dma 25) rfl rfl rfl rfl,
    need_at I c 2 22 26 (.dma 22) (.dma 26) rfl rfl rfl rfl, need_at I c 3 23 27 (.dma 23) (.dma 27) rfl rfl rfl rfl]
  unfold N4 N5 N14 N34 N44 NF gets pays pieces
  ac_rfl

/-- The landing buffers' parts after the body: what the second phase's sends read, the rest of that share, the other half. -/
def landed (c : Dev nD) : sProp 𝕄 :=
  iprop((mp c (qHi qL) qA (I.wq (lt c)) ∗ mrest c qL (qHi qL).view.set qA (I.wq (lt c)) ∗ mw c qL fullShare.right (I.wq (lt c)))
    ∗ (mp c (qLo qR) qA (I.wq (rt c)) ∗ mrest c qR (qLo qR).view.set qA (I.wq (rt c)) ∗ mw c qR fullShare.right (I.wq (rt c)))
    ∗ (mw c qO fullShare (I.wq (op c)))
    ∗ (mp c (oHi oL) qA (I.wo (lt c)) ∗ mrest c oL (oHi oL).view.set qA (I.wo (lt c)) ∗ mw c oL fullShare.right (I.wo (lt c)))
    ∗ (mp c (oLo oR) qA (I.wo (rt c)) ∗ mrest c oR (oLo oR).view.set qA (I.wo (rt c)) ∗ mw c oR fullShare.right (I.wo (rt c)))
    ∗ (mw c oO fullShare (I.wo (op c)))
    ∗ (mp c kM fullShare (filled c (I.kh c))) ∗ (mp c vM fullShare (filled c (I.vh c))))

theorem any_intro {sp : Space} {s : Shape} {e : EltTy} (c : Dev nD) (M : Memref sig .tc sp s e)
    (f : Buf (Elt F) (M.view.loc (c : Thread nD τ))) : (mw c M fullShare f : sProp 𝕄) ⊢ mwAny c M := by
  iintro H; iexists f; iexact H

theorem landed_scratch (c : Dev nD) : (landed I c : sProp 𝕄) ⊢ scratch (F := F) c := by
  unfold landed scratch
  rw [mp_mw c kM (w_ _), mp_mw c vM (w_ _)]
  refine BIClass.sep_mono (regain c qL (w_ _) (qHi qL).view.set (I.wq (lt c))) ?_
  refine BIClass.sep_mono (regain c qR (w_ _) (qLo qR).view.set (I.wq (rt c))) ?_
  refine BIClass.sep_mono (any_intro c qO (I.wq (op c))) ?_
  refine BIClass.sep_mono (regain c oL (w_ _) (oHi oL).view.set (I.wo (lt c))) ?_
  refine BIClass.sep_mono (regain c oR (w_ _) (oLo oR).view.set (I.wo (rt c))) ?_
  refine BIClass.sep_mono (any_intro c oO (I.wo (op c))) ?_
  exact BIClass.sep_mono (any_intro c kM (filled c (I.kh c))) (any_intro c vM (filled c (I.vh c)))

theorem slots_whole (c : Dev nD) : slots I c = iprop(mp c kM fullShare (filled c (I.kh c)) ∗ mp c vM fullShare (filled c (I.vh c))) := by
  rw [eqOf (kM_slots c _), eqOf (vM_slots c _), slot_form kM c 0, slot_form kM c 1, slot_form kM c 2, slot_form kM c 3,
    slot_form vM c 0, slot_form vM c 1, slot_form vM c 2, slot_form vM c 3]
  rfl

/-- What the body leaves, with what stayed aside, is the places a round on, the inputs, the landing buffers and the result. -/
theorem leave (c : Dev nD) : (iprop(bodyPost I c ∗ colsRest c khM (I.kh c) ∗ colsRest c vhM (I.vh c)) : sProp 𝕄)
    = iprop(debt c 12 ∗ places c 1 ∗ inputs I c ∗ landed I c ∗ mw c outM fullShare (outF I c)) := by
  unfold places
  rw [all_sems fun sm => place c sm 1]
  unfold inputs
  rw [thirds c wqM (w_ _), thirds c woM (w_ _), cols c khM (w_ _), cols c vhM (w_ _)]
  unfold bodyPost
  rw [slots_whole, done_at I c 0 (.dma 20) (.dma 24) rfl rfl, done_at I c 1 (.dma 21) (.dma 25) rfl rfl,
    done_at I c 2 (.dma 22) (.dma 26) rfl rfl, done_at I c 3 (.dma 23) (.dma 27) rfl rfl]
  unfold D34 D45 kept landed
  ac_rfl

/-- Every cell of device `c`, its rounds over, closed: the counters are zero. -/
theorem close (c : Dev nD) : iprop(shared I K ∗ places c 1)
    ⊢ (|={Set.univ}=> iprop(semVal (barC c) 0 ∗ bigSep Finset.univ fun j : Fin 25 => semVal ((c : Thread nD τ), osem j) 0) : sProp 𝕄) := by
  have h1 {g : GSem nD τ sig} (hg : g ∈ (barCells ∪ scCells : Finset (GSem nD τ sig))) :
      iprop(shared I K ∗ atPos ER g 1 ∅ 0) ⊢ (|={Set.univ}=> semVal g 0 : sProp 𝕄) := by
    refine (sep_mono_left (shared_inv I K hg)).trans ?_
    exact Rounds.cell_close ER (Rd I) (Set.mem_univ _) id (duties_later I g)
  unfold places place
  iintro ⟨#HS, HB, HP⟩
  imod (h1 (bar_mem c)) $$ [HB] with HB
  · isplitr; · iexact HS
    iexact HB
  ihave HP := (bigSep_with_persistent (S := Finset.univ) (R := shared I K) (Φ := fun j : Fin 25 => atPos ER ((c : Thread nD τ), osem j) 1 ∅ 0)
      (Ψ := fun j : Fin 25 => iprop(|={Set.univ}=> semVal ((c : Thread nD τ), osem j) 0)) fun j _ => h1 (sc_mem c j)) $$ [HP]
  · isplitr; · iexact HS
    iexact HP
  imod (bigSep_fupd Finset.univ fun j : Fin 25 => (semVal ((c : Thread nD τ), osem j) 0 : sProp 𝕄)) $$ HP with HP
  imodintro
  isplitl [HB]; · iexact HB
  iexact HP

/-- The call's body on one device, from whole buffers to whole buffers and every counter back at zero. -/
theorem run_kernel (c : Dev nD) (fo : Buf (Elt F) ((outM).view.loc (c : Thread nD τ))) :
    iprop(env I K c ∗ debt c 0 ∗ places c 0 ∗ gets c ∗ pays c ∗ inputs I c ∗ scratch (F := F) c ∗ mw c outM fullShare fo)
    ⊢ wp frame (wpE (defs₀ (F := F)) 𝒱 (c : Thread nD τ) none) Set.univ (atArgs (cc0_body (F := F)))
        fun _ => iprop(debt c 12 ∗ (semVal (barC c) 0 ∗ bigSep Finset.univ fun j : Fin 25 => semVal ((c : Thread nD τ), osem j) 0)
          ∗ inputs I c ∗ scratch (F := F) c ∗ mw c outM fullShare (outF I c)) := by
  have hpre : iprop(env I K c ∗ debt c 0 ∗ places c 0 ∗ gets c ∗ pays c ∗ inputs I c ∗ scratch (F := F) c ∗ mw c outM fullShare fo)
      ⊢ (iprop((env I K c ∗ bodyPre I c ∗ mw c outM fullShare fo) ∗ (env I K c ∗ colsRest c khM (I.kh c) ∗ colsRest c vhM (I.vh c))) : sProp 𝕄) := by
    iintro ⟨#HE, HO, HP, HG, HT, HI, HS, HF⟩
    ihave HS := (scratch_pieces c) $$ HS
    ihave H := (Entails.of_eq (enter I c)) $$ [HO HP HG HT HI HS]
    · isplitl [HO]; · iexact HO
      isplitl [HP]; · iexact HP
      isplitl [HG]; · iexact HG
      isplitl [HT]; · iexact HT
      isplitl [HI]; · iexact HI
      iexact HS
    icases H with ⟨HB, HR⟩
    isplitl [HB HF]
    · isplitr; · iexact HE
      isplitl [HB]; · iexact HB
      iexact HF
    isplitr; · iexact HE
    iexact HR
  have hbody : iprop(env I K c ∗ bodyPre I c ∗ mw c outM fullShare fo)
      ⊢ wp frame (wpE (defs₀ (F := F)) 𝒱 (c : Thread nD τ) none) Set.univ (atArgs (cc0_body (F := F))) fun _ => bodyPost I c := by
    refine Entails.trans (Entails.of_eq ?_) (run_body I K c fo)
    unfold bodyPre
    ac_rfl
  refine hpre.trans ((sep_mono_left hbody).trans ((wp_frame_r _ _ _).trans ((wp_mono _ _ _ fun _ => ?_).trans (wp_fupd _ _ _ _ _))))
  iintro ⟨HB, #HE, HR⟩
  ihave H := (Entails.of_eq (leave I c)) $$ [HB HR]
  · isplitl [HB]; · iexact HB
    iexact HR
  icases H with ⟨HO, HP, HI, HL, HF⟩
  unfold env
  icases HE with ⟨#HS, -⟩
  imod (close I K c) $$ [HP] with HP
  · isplitr; · iexact HS
    iexact HP
  imodintro
  isplitl [HO]; · iexact HO
  isplitl [HP]; · iexact HP
  isplitl [HI]; · iexact HI
  isplitl [HL]; · iapply (landed_scratch I c) $$ HL
  iexact HF

end Cert.Attn

end
-- ==== Proof.Region.lean ====
/- The call as a region of the program: its proof data, its body obligation, its entry and its exit. -/
module

public import proofs.«01_k».proof.Proof.Enter
public import proofs.«01_k».proof.Proof.Gen.KernelIdeal.Points
public import proofs.«01_k».proof.Proof.Gen.KernelIdeal.Regions
public import Idealize.ShloMosaic.Lib.Pipeline.Value
public import Idealize.ShloMosaic.Lib.Pipeline.RegionTalk

@[expose] public section

set_option maxRecDepth 16384

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (l : Loc nD τ sig) → Buf (Elt F) l)

/-- What the kernel's inputs hold on every device once the host part has run. -/
def ins : Ins F where
  x c := V1 m c main_v19
  wq c := V1 m c main_v22
  wo c := V1 m c main_v23
  kh c := V1 m c main_v11
  vh c := V1 m c main_v18

/-- The buffers once the call is over: as before it, but for its result. -/
def Vend (c : Dev nD) : Valuation τ sig (Elt F) := Function.update (V1 m c) main_v24 (outF (ins m) c)

/-! ## Each window is its whole array -/

theorem win_emb (w : Fin cfg0.W) (y : ((cfg0.win w).xblock (cfg0.grid.coords t0_0)).Idx) (a : Fin (cfg0.win w).shape.rank) :
    (((cfg0.win w).rect t0_0).emb y a : Nat) = y a :=
  Pipeline.Window.rect_emb_val_of_index_zero _ _ _ (by match w with | 0 => rfl | 1 => rfl | 2 => rfl | 3 => rfl) _

theorem blk0 (f : FVec F S2x512x768 .bf16) : ((cfg0.win 0).blk t0_0).view.read (Elt F) f = f :=
  funext fun x => congrArg f (funext fun a => Fin.ext (win_emb 0 x a))
theorem blk1 (f : FVec F S768x512 .bf16) : ((cfg0.win 1).blk t0_0).view.read (Elt F) f = f :=
  funext fun x => congrArg f (funext fun a => Fin.ext (win_emb 1 x a))
theorem blk2 (f : FVec F S512x768 .bf16) : ((cfg0.win 2).blk t0_0).view.read (Elt F) f = f :=
  funext fun x => congrArg f (funext fun a => Fin.ext (win_emb 2 x a))
theorem blk3 (f : FVec F S2x512x768 .f32) : ((cfg0.win 3).blk t0_0).view.read (Elt F) f = f :=
  funext fun x => congrArg f (funext fun a => Fin.ext (win_emb 3 x a))
theorem blk3_cover (i : S2x512x768.Idx) : i ∈ ((cfg0.win 3).blk t0_0).view.set :=
  Finset.mem_map.mpr ⟨i, Finset.mem_univ _, funext fun a => Fin.ext (win_emb 3 i a)⟩

/-! ## The region's proof data -/

theorem ins_x (c : Dev nD) : (ins m).x c = V1 m c main_v19 := rfl
theorem ins_wq (c : Dev nD) : (ins m).wq c = V1 m c main_v22 := rfl
theorem ins_wo (c : Dev nD) : (ins m).wo c = V1 m c main_v23 := rfl
theorem ins_kh (c : Dev nD) : (ins m).kh c = V1 m c main_v11 := rfl
theorem ins_vh (c : Dev nD) : (ins m).vh c = V1 m c main_v18 := rfl

attribute [local irreducible] outF ins

/-- The invariant's first point: protocol at its start, tables and scratch whole. -/
def PhiA (c : Dev nD) : sProp 𝕄 :=
  iprop((∃ K, env (ins m) K c) ∗ places c 0 ∗ gets c ∗ pays c ∗ (mw c khM fullShare ((ins m).kh c) ∗ mw c vhM fullShare ((ins m).vh c))
    ∗ scratch (F := F) c ∗ ∃ r, prngReg c r)
/-- Its last: every counter at zero, tables and scratch whole again. -/
def PhiB (c : Dev nD) : sProp 𝕄 :=
  iprop((semVal (barC c) 0 ∗ bigSep Finset.univ fun j : Fin 25 => semVal ((c : Thread nD τ), osem j) 0)
    ∗ (mw c khM fullShare ((ins m).kh c) ∗ mw c vhM fullShare ((ins m).vh c)) ∗ scratch (F := F) c ∗ ∃ r, prngReg c r)

/-- The region's proof data on device `c`: inputs unchanged, the result `outF`, every debt paid in its one point. -/
def dat0 (c : Dev nD) : Dat τ (Elt F) Unit ℕ UU ℕ cfg0 c where
  A w := V1 m c (Proc.devRef .tc (Pipeline.arrRef spec0 w))
  after w _ := match w with
    | ⟨0, _⟩ => (ins m).x c
    | ⟨1, _⟩ => (ins m).wq c
    | ⟨2, _⟩ => (ins m).wo c
    | ⟨3, _⟩ => outF (ins m) c
  Φ t := if t.val = 0 then PhiA m c else PhiB m c
  q _ := fullShare
  owed t := if t.val = 0 then due c 0 else 0

abbrev pdats : (p : Fin 1) → (c : Dev nD) → Dat τ (Elt F) Unit ℕ UU ℕ (cfgs p) c := fun | 0 => dat0 m | ⟨_ + 1, h⟩ => absurd h (Nat.not_lt.2 (Nat.le_add_left _ _))

theorem owed_first (c : Dev nD) : (dat0 m c).owed t0_0.castSucc = due c 0 := by
  show (if (t0_0.castSucc : Fin (cfg0.N + 1)).val = 0 then due c 0 else 0) = due c 0; exact if_pos rfl
theorem owed_last (c : Dev nD) : (dat0 m c).owed (Fin.last _) = 0 := by
  show (if (Fin.last cfg0.N).val = 0 then due c 0 else 0) = 0
  rw [Fin.val_last, if_neg (by rw [show cfg0.N = 1 from N_0]; decide)]
theorem phi_first (c : Dev nD) : (dat0 m c).Φ t0_0.castSucc = PhiA m c := by
  show (if (t0_0.castSucc : Fin (cfg0.N + 1)).val = 0 then PhiA m c else PhiB m c) = PhiA m c; exact if_pos rfl
theorem phi_last (c : Dev nD) : (dat0 m c).Φ (Fin.last _) = PhiB m c := by
  show (if (Fin.last cfg0.N).val = 0 then PhiA m c else PhiB m c) = PhiB m c
  rw [Fin.val_last, if_neg (by rw [show cfg0.N = 1 from N_0]; decide)]

theorem before0 (c : Dev nD) (d) : (dat0 m c).before 0 t0_0 d = (ins m).x c := by
  unfold Dat.before; rw [if_pos (fetch0_0 t0_0)]; exact (blk0 (V1 m c main_v19)).trans (ins_x m c).symm
theorem before1 (c : Dev nD) (d) : (dat0 m c).before 1 t0_0 d = (ins m).wq c := by
  unfold Dat.before; rw [if_pos (fetch0_1 t0_0)]; exact (blk1 (V1 m c main_v22)).trans (ins_wq m c).symm
theorem before2 (c : Dev nD) (d) : (dat0 m c).before 2 t0_0 d = (ins m).wo c := by
  unfold Dat.before; rw [if_pos (fetch0_2 t0_0)]; exact (blk2 (V1 m c main_v23)).trans (ins_wo m c).symm

theorem owns_whole_mw (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ mw c (Memref.whole b) fullShare f) := by
  unfold owns; simp only [Memref.view_whole, View.read_whole, View.set_whole]

theorem owes_in (c : Dev nD) (t : Fin (cfg0.N + 1)) (O : CellTallies nD τ sig Unit) (h : (dat0 m c).owed t = O) :
    (iprop(∃ W, owes (c : Thread nD τ) O W) : sProp 𝕄) ⊢ (dat0 m c).owesAt () t := by
  unfold Dat.owesAt Pipeline.owesWithin Dat.bound; rw [h]
  iintro ⟨%W, HO⟩; iexists W; isplitr
  · ipureintro; exact fun _ _ => Or.inl trivial
  iexact HO
theorem owes_out (c : Dev nD) (t : Fin (cfg0.N + 1)) (O : CellTallies nD τ sig Unit) (h : (dat0 m c).owed t = O) :
    ((dat0 m c).owesAt () t : sProp 𝕄) ⊢ iprop(∃ W, owes (c : Thread nD τ) O W) := by
  unfold Dat.owesAt Pipeline.owesWithin; rw [h]
  iintro ⟨%W, -, HO⟩; iexists W; iexact HO

/-- The body meets its obligation at the region's one point. -/
theorem body0 (c : Dev nD) : BodyObligation (dat0 m c) (defs₀ (F := F)) 𝒱 () Set.univ := fun t => by
  obtain rfl := fin_N0 t
  rw [bigSep_W0, bigSep_W0, phi_first, show t0_0.succ = Fin.last _ from Fin.ext (by rw [Fin.val_last]; exact N_0.symm), phi_last]
  show iprop(PhiA m c ∗ (dat0 m c).owesAt () t0_0.castSucc
      ∗ (∃ d, owns (c : Thread nD τ) (Memref.whole cc0_stg0_0) fullShare ((dat0 m c).before 0 t0_0 d))
      ∗ (∃ d, owns (c : Thread nD τ) (Memref.whole cc0_stg1_0) fullShare ((dat0 m c).before 1 t0_0 d))
      ∗ (∃ d, owns (c : Thread nD τ) (Memref.whole cc0_stg2_0) fullShare ((dat0 m c).before 2 t0_0 d))
      ∗ (∃ d, owns (c : Thread nD τ) (Memref.whole cc0_stg3_0) fullShare ((dat0 m c).before 3 t0_0 d)))
    ⊢ wp frame (wpE (defs₀ (F := F)) 𝒱 (c : Thread nD τ) none) Set.univ (atArgs (cc0_body (F := F)))
      fun _ => iprop(PhiB m c ∗ (dat0 m c).owesAt () (Fin.last _)
        ∗ owns (c : Thread nD τ) (Memref.whole cc0_stg0_0) fullShare ((ins m).x c)
        ∗ owns (c : Thread nD τ) (Memref.whole cc0_stg1_0) fullShare ((ins m).wq c)
        ∗ owns (c : Thread nD τ) (Memref.whole cc0_stg2_0) fullShare ((ins m).wo c)
        ∗ owns (c : Thread nD τ) (Memref.whole cc0_stg3_0) fullShare (outF (ins m) c))
  simp only [owns_whole_mw, before0, before1, before2]
  have hpre : iprop(PhiA m c ∗ (dat0 m c).owesAt () t0_0.castSucc
      ∗ (∃ _d : (cfg0.win 0).block.Idx → Elt F (cfg0.win 0).elt, ∃ f : Buf (Elt F) ((c : Thread nD τ).loc cc0_stg0_0), ⌜f = (ins m).x c⌝ ∗ mw c (Memref.whole cc0_stg0_0) fullShare f)
      ∗ (∃ _d : (cfg0.win 1).block.Idx → Elt F (cfg0.win 1).elt, ∃ f : Buf (Elt F) ((c : Thread nD τ).loc cc0_stg1_0), ⌜f = (ins m).wq c⌝ ∗ mw c (Memref.whole cc0_stg1_0) fullShare f)
      ∗ (∃ _d : (cfg0.win 2).block.Idx → Elt F (cfg0.win 2).elt, ∃ f : Buf (Elt F) ((c : Thread nD τ).loc cc0_stg2_0), ⌜f = (ins m).wo c⌝ ∗ mw c (Memref.whole cc0_stg2_0) fullShare f)
      ∗ (∃ d : (cfg0.win 3).block.Idx → Elt F (cfg0.win 3).elt, ∃ f : Buf (Elt F) ((c : Thread nD τ).loc cc0_stg3_0), ⌜f = (dat0 m c).before 3 t0_0 d⌝ ∗ mw c (Memref.whole cc0_stg3_0) fullShare f))
      ⊢ (iprop(∃ (K : GSem nD τ sig → ℕ) (fo : Buf (Elt F) ((outM).view.loc (c : Thread nD τ))),
          (env (ins m) K c ∗ debt c 0 ∗ places c 0 ∗ gets c ∗ pays c ∗ inputs (ins m) c ∗ scratch (F := F) c ∗ mw c outM fullShare fo) ∗ ∃ r, prngReg c r) : sProp 𝕄) := by
    unfold PhiA inputs
    iintro ⟨⟨⟨%K, HE⟩, HP, HG, HT, ⟨HK, HV⟩, HS, Hr⟩, HO, ⟨%_, %f0, %h0, H0⟩, ⟨%_, %f1, %h1, H1⟩, ⟨%_, %f2, %h2, H2⟩, ⟨%_, %f3, -, H3⟩⟩
    subst h0 h1 h2
    iexists K; iexists f3
    isplitr [Hr]; swap; · iexact Hr
    isplitl [HE]; · iexact HE
    isplitl [HO]; · unfold debt; iapply (owes_out m c _ _ (owed_first m c)) $$ HO
    isplitl [HP]; · iexact HP
    isplitl [HG]; · iexact HG
    isplitl [HT]; · iexact HT
    isplitl [H0 H1 H2 HK HV]
    · isplitl [H0]; · iexact H0
      isplitl [H1]; · iexact H1
      isplitl [H2]; · iexact H2
      isplitl [HK]; · iexact HK
      iexact HV
    isplitl [HS]; · iexact HS
    iexact H3
  refine hpre.trans ?_
  refine BIClass.exists_elim fun K => BIClass.exists_elim fun fo => ?_
  refine (sep_mono_left (run_kernel (ins m) K c fo)).trans ((wp_frame_r _ _ _).trans (wp_mono _ _ _ fun _ => ?_))
  unfold PhiB inputs
  iintro ⟨⟨HO, HZ, ⟨H0, H1, H2, HK, HV⟩, HS, H3⟩, Hr⟩
  isplitl [HZ HK HV HS Hr]
  · isplitl [HZ]; · iexact HZ
    isplitl [HK HV]; · isplitl [HK] <;> iassumption
    isplitl [HS] <;> iassumption
  isplitl [HO]; · iapply (owes_in m c _ 0 (owed_last m c)); unfold debt; iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  iexists _; isplitr; swap; (· iexact H3); ipureintro; rfl

/-! ## The arrays at the end -/

theorem arr_end (c : Dev nD) : ∀ w, (dat0 m c).arrAt w cfg0.N = Vend m c (Proc.devRef .tc (Pipeline.arrRef spec0 w)) := by
  have hin : ∀ w : Fin 4, w ≠ 3 → Vend m c (Proc.devRef .tc (Pipeline.arrRef spec0 w)) = V1 m c (Proc.devRef .tc (Pipeline.arrRef spec0 w)) := by
    intro w hw
    unfold Vend
    rw [Function.update_of_ne]
    intro h
    have := Proc.devRef_injective _ h
    revert hw this; revert w; decide
  intro w
  match w with
  | ⟨0, _⟩ => exact (Dat.arrAt_in (dat0 m c) 0 rfl _).trans (hin 0 (by decide)).symm
  | ⟨1, _⟩ => exact (Dat.arrAt_in (dat0 m c) 1 rfl _).trans (hin 1 (by decide)).symm
  | ⟨2, _⟩ => exact (Dat.arrAt_in (dat0 m c) 2 rfl _).trans (hin 2 (by decide)).symm
  | ⟨3, _⟩ =>
    refine (Dat.arrAt_eq_of_cover (dat0 m c) 3 (outF (ins m) c) (fun t _ => ?_) fun i => ⟨t0_0, flush0_3 t0_0, blk3_cover i⟩).trans ?_
    · obtain rfl := fin_N0 t
      exact (blk3 _).symm
    · exact (show Vend m c main_v24 = outF (ins m) c from by unfold Vend; exact Function.update_self _ _ _).symm

/-! ## Entry and exit -/

/-- The tables the body addresses itself. -/
abbrev Hs : Finset (DevRef τ sig) := {Proc.devRef .tc main_v11, Proc.devRef .tc main_v18}
/-- Every unscoped buffer but the windows' arrays. -/
abbrev Sr : Finset (DevRef τ sig) := Pipeline.ucRefs τ sig \ Pipeline.arrRefs (τ := τ) spec0

theorem hs_sub : Hs ⊆ Sr := by decide
theorem arr_sub : Pipeline.arrRefs (τ := τ) spec0 ⊆ Pipeline.ucRefs τ sig := by decide
theorem out_notMem : (main_v24 : DevRef τ sig) ∉ Sr := by decide

theorem held_hs (c : Dev nD) (W : Valuation τ sig (Elt F)) :
    (StableHlo.held (c.tc : Thread nD τ) Hs W : sProp 𝕄) = iprop(mw c khM fullShare (W main_v11) ∗ mw c vhM fullShare (W main_v18)) := by
  unfold StableHlo.held
  rw [BI.bigSep_insert (by decide), BI.bigSep_singleton]; rfl

/-- What the protocol hands device `c` at launch, beside its debt. -/
def Tk (c : Dev nD) : sProp 𝕄 :=
  iprop((∃ K, shared (ins m) K) ∗ place c (.reg 0) 0 ∗ (bigSep Finset.univ fun j : Fin 25 => openTok ER ((c : Thread nD τ), osem j)) ∗ gets c ∗ pays c)
def Xk (c : Dev nD) : sProp 𝕄 := iprop((∃ K, env (ins m) K c) ∗ places c 0 ∗ gets c ∗ pays c)
def Yk (c : Dev nD) : sProp 𝕄 := semVal (barC c) 0

theorem open_cells (K : GSem nD τ sig → ℕ) (c : Dev nD) :
    iprop(shared (ins m) K ∗ (bigSep Finset.univ fun j : Fin 25 => openTok ER ((c : Thread nD τ), osem j))
      ∗ bigSep Finset.univ fun j : Fin 25 => semVal ((c : Thread nD τ), osem j) 0)
    ⊢ (|={Set.univ}=> iprop((bigSep Finset.univ fun j : Fin 25 => place c (osem j) 0)
        ∗ bigSep Finset.univ fun j : Fin 25 => reached ER ((c : Thread nD τ), osem j) 0) : sProp 𝕄) := by
  rw [← bigSep_sep', ← bigSep_sep']
  refine (bigSep_with_persistent (S := Finset.univ) (R := shared (ins m) K)
      (Φ := fun j : Fin 25 => iprop(openTok ER ((c : Thread nD τ), osem j) ∗ semVal ((c : Thread nD τ), osem j) 0))
      (Ψ := fun j : Fin 25 => iprop(|={Set.univ}=> (place c (osem j) 0 ∗ reached ER ((c : Thread nD τ), osem j) 0))) fun j _ => ?_).trans
    (bigSep_fupd Finset.univ _)
  exact (sep_mono_left (shared_inv (ins m) K (sc_mem c j))).trans (Rounds.cell_open ER (Rd (ins m)) (Set.mem_univ _))

theorem hopen (c : Dev nD) : iprop(Tk m c ∗ Pipeline.ownSems0 osem c ∗ levAts L lv) ⊢ (|={Set.univ}=> Xk m c : sProp 𝕄) := by
  unfold Tk Xk Pipeline.ownSems0 places env
  iintro ⟨⟨⟨%K, #HS⟩, HP, HT, HG, HY⟩, HZ, -⟩
  imod (open_cells m K c) $$ [HT HZ] with ⟨HA, HR⟩
  · isplitr; · iexact HS
    isplitl [HT] <;> iassumption
  imodintro
  isplitl [HR]
  · iexists K; isplitr; · iexact HS
    iexact HR
  isplitl [HP HA]; · isplitl [HP] <;> iassumption
  isplitl [HG] <;> iassumption

theorem scratch_eq (c : Dev nD) : (Pipeline.scopedRest (Ix := Unit) (Name := ℕ) (U := UU) (Lvl := ℕ) (Val := Elt F)
    (Pipeline.pin (pcfgs (F := F)) adm 0).spec c : sProp 𝕄) = scratch (F := F) c := scopedRest0_eq c

theorem hin (c : Dev nD) : iprop(Pipeline.scopedRest (Pipeline.pin (pcfgs (F := F)) adm 0).spec c ∗ (∃ r, prngReg c r)
      ∗ StableHlo.held (c.tc : Thread nD τ) Hs (V1 m c) ∗ Xk m c)
    ⊢ (pdats m 0 c).Φ 0 := by
  rw [show (pdats m 0 c).Φ 0 = PhiA m c from phi_first m c, scratch_eq, held_hs]
  unfold PhiA Xk
  rw [ins_kh, ins_vh]
  iintro ⟨HS, Hr, HH, HK, HP, HG, HT⟩
  isplitl [HK]; · iexact HK
  isplitl [HP]; · iexact HP
  isplitl [HG]; · iexact HG
  isplitl [HT]; · iexact HT
  isplitl [HH]; · iexact HH
  isplitl [HS] <;> iassumption

theorem vend_of (c : Dev nD) (b : DevRef τ sig) (h : b ≠ main_v24) : Vend m c b = V1 m c b := by
  unfold Vend; exact Function.update_of_ne h _ _

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) Hs (Vend m c) ∗ Pipeline.ownSems0 osem c ∗ Yk c) := by
  rw [show (pdats m 0 c).Φ (Fin.last _) = PhiB m c from phi_last m c, scratch_eq, held_hs, vend_of m c main_v11 (by decide), vend_of m c main_v18 (by decide)]
  unfold PhiB Yk Pipeline.ownSems0
  rw [ins_kh, ins_vh]
  iintro ⟨⟨HB, HZ⟩, HH, HS, Hr⟩
  isplitl [HS]; · iexact HS
  isplitl [Hr]; · iexact Hr
  isplitl [HH]; · iexact HH
  isplitl [HZ] <;> iassumption

theorem cut (c : Dev nD) (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = if t.val = 0 then due c 0 else 0 := rfl
  rw [e] at h
  split at h
  · obtain ⟨a, ha, rfl⟩ := owe_pos h
    obtain ⟨h1, h2⟩ := high0 c a ha
    exact ⟨by rw [L, if_pos h1]; exact Finset.mem_singleton_self _, h2⟩
  · exact absurd h (Nat.lt_irrefl 0)

theorem stage_low : ∀ (w : Fin 4) (s : Fin (spec0 w).nbuf), lvS (.dma ((spec0 w).sem s)) ≤ 0 := by decide

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

set_option backward.isDefEq.respectTransparency.types false in
/-- The call as a segment of the program. -/
def reg : Pipeline.RegionSeg (pcfgs (F := F)) adm (pdats m) () defs₀ 𝒱 L lv 0 :=
  Pipeline.RegionSeg.ofTalk (pcfgs (F := F)) adm (pdats m) () defs₀ 𝒱 L lv 0 osem (by decide : Pipeline.OwnSemFacts spec0 osem)
    Hs Sr hs_sub kit rfl (fun c => (body0 m c).loose)
    (fun _ => 0) (fun c => due c 0) (fun c => (owed_first m c).trans (zero_add _).symm) (owed_last m) (fun _ => rfl)
    (fun c w => by unfold Dat.share; split <;> rfl)
    (V1 m) (Vend m) (fun c b hb => vend_of m c b fun h => out_notMem (h ▸ (Finset.mem_sdiff.mp hb).1))
    (Tk m) Yk (Xk m) Yk (hopen m) (hin m) (hout m)
    (fun c => by iintro H; imodintro; iexact H)
    (fun _ => 0)
    ⟨fun c w s => by rw [L, if_pos rfl]; exact Finset.mem_singleton_self _, fun c w s => stage_low w s, fun c t g i h => cut m c t g i h⟩
    (fun _ => iprop(emp))
    (fun c w => rfl) (arr_end m)

/-- What surrounds the region before and after it. -/
def E : Fin 2 → Dev nD → sProp 𝕄
  | 0, c => iprop(Tk m c ∗ (∃ r, prngReg c r) ∗ debt c 0)
  | 1, c => iprop(semVal (barC c) 0 ∗ ∃ W, owes (c : Thread nD τ) (0 : CellTallies nD τ sig Unit) W)

theorem reg_pre (c : Dev nD) : iprop(StableHlo.held (c : Thread nD τ) (Pipeline.ucRefs τ sig) (V1 m c) ∗ E m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) Sr (V1 m c) ∗ emp) ∗ Tk m c ∗ ∃ Wd, owes (c : Thread nD τ) (0 + due c 0) Wd)
  rw [zero_add, StableHlo.held_sub_split (c.tc : Thread nD τ) arr_sub (V1 m c)]
  show iprop(_ ∗ (Tk m c ∗ (∃ r, prngReg c r) ∗ ∃ W, owes (c : Thread nD τ) (due c 0) W)) ⊢ _
  iintro ⟨⟨HA, HR⟩, HT, Hr, HO⟩
  isplitl [HA]; · iexact HA
  isplitl [Hr]; · iexact Hr
  isplitl [HR]
  · isplitl [HR]; · iexact HR
    iempintro
  isplitl [HT] <;> iassumption

theorem reg_post (c : Dev nD) : (reg m).post c ⊢ iprop(StableHlo.held (c : Thread nD τ) (Pipeline.ucRefs τ sig) (Vend m c) ∗ E m 1 c) := by
  show iprop(StableHlo.held (c.tc : Thread nD τ) (Pipeline.arrRefs (τ := τ) spec0) (Vend m c) ∗ (∃ r, prngReg c r)
    ∗ (StableHlo.held (c.tc : Thread nD τ) Sr (Vend m c) ∗ emp) ∗ Yk c ∗ ∃ Wd, owes (c : Thread nD τ) (0 : CellTallies nD τ sig Unit) Wd) ⊢ _
  rw [StableHlo.held_sub_split (c.tc : Thread nD τ) arr_sub (Vend m c)]
  show _ ⊢ iprop(_ ∗ Yk c ∗ ∃ W, owes (c : Thread nD τ) (0 : CellTallies nD τ sig Unit) W)
  iintro ⟨HA, -, ⟨HR, -⟩, HY, HO⟩
  isplitl [HA HR]; · isplitl [HA] <;> iassumption
  isplitl [HY] <;> iassumption

end Cert.Attn

end
-- ==== Proof.Launch.lean ====
/- The launch: cells funded, tokens dealt round the ring, credits; and the whole program's run. -/
module

public import proofs.«01_k».proof.Proof.Region
public import Idealize.ShloMosaic.Lib.Pipeline.Kit

@[expose] public section

set_option maxRecDepth 16384

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (l : Loc nD τ sig) → Buf (Elt F) l) (ρ : Dev nD → PrngReg)

attribute [local irreducible] outF ins

theorem disjoint_cells : Disjoint (barCells : Finset (GSem nD τ sig)) scCells := by
  rw [Finset.disjoint_left]
  intro g h₁ h₂
  obtain ⟨c, -, rfl⟩ := Finset.mem_map.mp h₁
  obtain ⟨ck, -, h⟩ := Finset.mem_map.mp h₂
  exact osem_ne_bar ck.2 (congrArg Prod.snd h)

/-! ## Tokens -/

/-- The duties of one device's cells, numbered: the two of the barrier, the two of the final cell, then the DMA cells'. -/
def tSem (k : Fin 28) : SemLoc sig × Bool := match k.val with
  | 0 => (.reg 0, false) | 1 => (.reg 0, true) | 2 => (.reg 1, false) | 3 => (.reg 1, true)
  | _ => (.dma k, true)
theorem tSem_inj : Function.Injective tSem := by decide +kernel

def tokEmb : Dev nD × Fin 28 ↪ GSem nD τ sig × ℕ × Bool :=
  ⟨fun ck => (((ck.1 : Thread nD τ), (tSem ck.2).1), 0, (tSem ck.2).2), fun _ _ h =>
    Prod.ext (congrArg (fun t : GSem nD τ sig × ℕ × Bool => t.1.1.1) h)
      (tSem_inj (Prod.ext (congrArg (fun t : GSem nD τ sig × ℕ × Bool => t.1.2) h) (congrArg (fun t : GSem nD τ sig × ℕ × Bool => t.2.2) h)))⟩
def talkToks : Finset (GSem nD τ sig × ℕ × Bool) := Finset.univ.map tokEmb

/-- Which device's cell the duty `k` that device `c` pays is on, and back. -/
def payee (c : Dev nD) (k : Fin 28) : Dev nD := match k.val with
  | 0 | 2 | 9 | 11 | 16 | 18 => lt c
  | 1 | 3 | 8 | 10 | 17 | 19 => rt c
  | _ => c
def payer (c : Dev nD) (k : Fin 28) : Dev nD := match k.val with
  | 0 | 2 | 9 | 11 | 16 | 18 => rt c
  | 1 | 3 | 8 | 10 | 17 | 19 => lt c
  | _ => c
def around : Dev nD × Fin 28 ≃ Dev nD × Fin 28 where
  toFun p := (payee p.1 p.2, p.2)
  invFun p := (payer p.1 p.2, p.2)
  left_inv p := by revert p; decide +kernel
  right_inv p := by revert p; decide +kernel

theorem all_toks (P : Fin 28 → sProp 𝕄) : (bigSep Finset.univ P)
    = iprop((P 0 ∗ P 1 ∗ P 2 ∗ P 3) ∗ (P 4 ∗ P 5 ∗ P 6 ∗ P 7) ∗ (P 8 ∗ P 9 ∗ P 10 ∗ P 11)
      ∗ (P 12 ∗ P 13 ∗ P 14 ∗ P 15) ∗ (P 16 ∗ P 17 ∗ P 18 ∗ P 19) ∗ (P 20 ∗ P 21 ∗ P 22 ∗ P 23) ∗ (P 24 ∗ P 25 ∗ P 26 ∗ P 27)) := by
  rw [bigSep_univ_eq_bigSepL [0, 1, 2, 3, 4, 5, 6, 7, 8, 9, 10, 11, 12, 13, 14, 15, 16, 17, 18, 19, 20, 21, 22, 23, 24, 25, 26, 27]
    (by decide +kernel) (by decide +kernel)]
  show iprop(P 0 ∗ P 1 ∗ P 2 ∗ P 3 ∗ P 4 ∗ P 5 ∗ P 6 ∗ P 7 ∗ P 8 ∗ P 9 ∗ P 10 ∗ P 11
      ∗ P 12 ∗ P 13 ∗ P 14 ∗ P 15 ∗ P 16 ∗ P 17 ∗ P 18 ∗ P 19 ∗ P 20 ∗ P 21 ∗ P 22 ∗ P 23 ∗ P 24 ∗ P 25 ∗ P 26 ∗ P 27) = _
  simp only [star_assoc_eq]

/-- Every token, dealt to the device that pays its duty. -/
theorem toks_dealt : bigSep talkToks (fun x => (dutyTok ER x.1 x.2.1 x.2.2 : sProp 𝕄)) = bigSep Finset.univ fun c : Dev nD => pays (F := F) c := by
  unfold talkToks
  rw [bigSep_map, bigSep_univ_equiv around, bigSep_univ_prod]
  exact bigSep_congr fun c _ => by rw [all_toks]; rfl

/-! ## Credits -/

theorem owe_apply (l : List (GSem nD τ sig × ℕ)) (g : GSem nD τ sig) :
    owe l g () = ((l.filter fun a => a.1 = g).map Prod.snd).sum := by
  induction l with
  | nil => rfl
  | cons a l ih =>
    rw [owe, Pi.add_apply, Finsupp.add_apply, ih, tallyAt_apply, List.filter_cons]
    by_cases h : a.1 = g
    · rw [if_pos ⟨h.symm, rfl⟩, if_pos (decide_eq_true h), List.map_cons, List.sum_cons, Nat.add_comm]
    · rw [if_neg (fun ⟨h', _⟩ => h h'.symm), if_neg (by simpa using h), Nat.add_zero]

/-- The amounts the four devices owe a cell. -/
def owedTo (g : GSem nD τ sig) : List ℕ :=
  ((dues 0 ++ dues 1 ++ dues 2 ++ dues 3).filter fun a => a.1 = g).map Prod.snd

theorem launch_credit (g : GSem nD τ sig) (n : ℕ) (h : (owedTo g).sum = n) :
    tallyOn g (launchCredit (Pipeline.owing fun c => due c 0) 0 g) = (tallyAt g () n : CellTallies nD τ sig Unit) := by
  unfold tallyAt; refine congrArg _ (Finsupp.ext fun u => ?_); cases u
  rw [Pipeline.launchCredit_owing, Finsupp.single_eq_same, ← h]
  show ∑ d : Fin 4, owe (dues d) g () = _
  rw [Fin.sum_univ_four, owe_apply, owe_apply, owe_apply, owe_apply]
  unfold owedTo
  rw [List.filter_append, List.filter_append, List.filter_append, List.map_append, List.map_append, List.map_append,
    List.sum_append, List.sum_append, List.sum_append]

theorem owed_reg : ∀ (c : Dev nD) (s : Fin 2), (owedTo ((c : Thread nD τ), .reg s)).sum = 2 := by decide +kernel
theorem owed_dma : ∀ (c : Dev nD) (k : Fin 28), (8 ≤ k.val ∧ k.val < 12 ∨ 16 ≤ k.val ∧ k.val < 20) → (owedTo (dC c k)).sum = amt k.val := by decide +kernel

/-- The semaphores whose units others owe, picked out of all. -/
theorem some_sems (P : SemLoc sig → sProp 𝕄) : bigSep Finset.univ P
    ⊢ iprop(P (.reg 0) ∗ P (.reg 1) ∗ (P (.dma 8) ∗ P (.dma 9) ∗ P (.dma 10) ∗ P (.dma 11)) ∗ (P (.dma 16) ∗ P (.dma 17) ∗ P (.dma 18) ∗ P (.dma 19))) := by
  rw [bigSep_univ_eq_bigSepL [.reg 0, .reg 1, .dma 8, .dma 9, .dma 10, .dma 11, .dma 16, .dma 17, .dma 18, .dma 19,
      .dma 0, .dma 1, .dma 2, .dma 3, .dma 4, .dma 5, .dma 6, .dma 7, .dma 12, .dma 13, .dma 14, .dma 15,
      .dma 20, .dma 21, .dma 22, .dma 23, .dma 24, .dma 25, .dma 26, .dma 27] (by decide +kernel) (by decide +kernel)]
  show iprop(P (.reg 0) ∗ P (.reg 1) ∗ P (.dma 8) ∗ P (.dma 9) ∗ P (.dma 10) ∗ P (.dma 11) ∗ P (.dma 16) ∗ P (.dma 17) ∗ P (.dma 18) ∗ P (.dma 19) ∗ _) ⊢ _
  iintro ⟨H0, H1, H2, H3, H4, H5, H6, H7, H8, H9, -⟩
  isplitl [H0]; · iexact H0
  isplitl [H1]; · iexact H1
  isplitl [H2 H3 H4 H5]
  · isplitl [H2]; · iexact H2
    isplitl [H3]; · iexact H3
    isplitl [H4] <;> iassumption
  isplitl [H6]; · iexact H6
  isplitl [H7]; · iexact H7
  isplitl [H8] <;> iassumption

theorem creds (c : Dev nD) : (Pipeline.launchCred (fun c => due c 0) c : sProp 𝕄) ⊢ gets c := by
  have hr (s : Fin 2) := launch_credit ((c : Thread nD τ), .reg s) 2 (owed_reg c s)
  have hd (k : Fin 28) (hk) := launch_credit (dC c k) (amt k.val) (owed_dma c k hk)
  unfold Pipeline.launchCred gets crd
  rw [← hr 0, ← hr 1, ← hd 8 (by decide), ← hd 9 (by decide), ← hd 10 (by decide), ← hd 11 (by decide),
    ← hd 16 (by decide), ← hd 17 (by decide), ← hd 18 (by decide), ← hd 19 (by decide)]
  exact some_sems fun sm => cred (tallyOn ((c.tc : Thread nD τ), sm) (launchCredit (Pipeline.owing fun c => due c 0) 0 ((c.tc : Thread nD τ), sm)))

/-! ## The launch -/

/-- The launch element: the staging copies' and the protocol's. -/
def u₀ : UU :=
  (initOf (Pipeline.cells (Pipeline.pin (pcfgs (F := F)) adm) cellOf_inj) (Pipeline.launchToks (Pipeline.pin (pcfgs (F := F)) adm) cellOf_inj),
    launchOf barCells scCells talkToks)

/-- The protocol's launch element, kept on device 0 until the launch's common step. -/
def G (c : Dev nD) : sProp 𝕄 := if c = 0 then BI.own (ER (launchOf barCells scCells talkToks)) else iprop(emp)
theorem all_G : bigSep Finset.univ (G (F := F)) = BI.own (ER (launchOf barCells scCells talkToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem bar_counter (c : Dev nD) : (unscopedSems0 c : sProp 𝕄) = semVal (barC c) 0 := by
  unfold unscopedSems0
  rw [show (Finset.univ.filter fun sm : SemLoc sig => ¬ sm.isScoped .tc) = {SemLoc.reg 0} from by decide, BI.bigSep_singleton]

/-- What of a device's launch holdings is not the protocol's. -/
def bundle (c : Dev nD) : sProp 𝕄 :=
  iprop(StableHlo.held (c : Thread nD τ) (Pipeline.ucRefs τ sig) (V0 m c) ∗ gets c ∗ (∃ r, prngReg c r) ∗ debt c 0)
/-- What of the protocol's is one device's alone. -/
def own1 (c : Dev nD) : sProp 𝕄 :=
  iprop(place c (.reg 0) 0 ∗ (bigSep Finset.univ fun j : Fin 25 => openTok ER ((c : Thread nD τ), osem j)) ∗ pays c)

abbrev T₀ (c : Dev nD) : sProp 𝕄 := iprop(StableHlo.held (c : Thread nD τ) (Pipeline.ucRefs τ sig) (V0 m c) ∗ E m 0 c)

theorem T₀_intro (κ : GSem nD τ sig → ℕ) (c : Dev nD) : iprop(shared (ins m) κ ∗ (own1 c ∗ bundle m c)) ⊢ T₀ m c := by
  show _ ⊢ iprop(StableHlo.held (c : Thread nD τ) (Pipeline.ucRefs τ sig) (V0 m c) ∗ Tk m c ∗ (∃ r, prngReg c r) ∗ debt c 0)
  unfold own1 bundle Tk
  iintro ⟨#HS, ⟨HP, HT, HY⟩, HV, HG, Hr, HO⟩
  isplitl [HV]; · iexact HV
  isplitr [Hr HO]; swap; · isplitl [Hr] <;> iassumption
  isplitr; · iexists κ; iexact HS
  isplitl [HP]; · iexact HP
  isplitl [HT]; · iexact HT
  isplitl [HG] <;> iassumption

theorem init :
    iprop((bigSep Finset.univ fun c : Dev nD => iprop(unscopedBufs c (fun b => m ((c.tc : Thread nD τ).loc b)) ∗ unscopedSems0 c
          ∗ owes (c.tc : Thread nD τ) (due c 0) ∅ ∗ Pipeline.launchCred (fun c => due c 0) c ∗ prngReg c (ρ c) ∗ G c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (due c 0) ∅ ∗ Pipeline.launchCred (fun c => due c 0) c ∗ prngReg c (ρ c) ∗ G c)
      ⊢ (iprop(bundle m c ∗ (semVal (barC c) 0 ∗ G c)) : sProp 𝕄) := by
    rw [show unscopedBufs c (fun b => m ((c.tc : Thread nD τ).loc b)) = StableHlo.held (c : Thread nD τ) (Pipeline.ucRefs τ sig) (V0 m c) from
        Pipeline.unscopedBufs_held (Ix := Unit) (Name := ℕ) (U := UU) (Lvl := ℕ) c (V0 m c), bar_counter]
    unfold bundle debt
    iintro ⟨Hh, Hus, HO, Hcr, Hp, HG⟩
    isplitr [Hus HG]; swap; · isplitl [Hus] <;> iassumption
    isplitl [Hh]; · iexact Hh
    isplitl [Hcr]; · iapply (creds (F := F) c) $$ Hcr
    isplitl [Hp]; · iexists (ρ c); iexact Hp
    iexists ∅; iexact HO
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (place c (.reg 0) 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun j : Fin 25 => openTok ER ((c : Thread nD τ), osem j)) :=
    Entails.of_eq (by rw [bigSep_map, bigSep_univ_prod]; rfl)
  iintro ⟨H, #HL⟩
  ihave H' := (show (bigSep Finset.univ fun c : Dev nD => iprop(unscopedBufs c (fun b => m ((c.tc : Thread nD τ).loc b)) ∗ unscopedSems0 c
          ∗ owes (c.tc : Thread nD τ) (due c 0) ∅ ∗ Pipeline.launchCred (fun c => due c 0) c ∗ prngReg c (ρ c) ∗ G c))
      ⊢ (bigSep Finset.univ fun c : Dev nD => iprop(bundle m c ∗ (semVal (barC c) 0 ∗ G c)) : sProp 𝕄) from bigSep_mono fun c _ => hcore c) $$ H
  ihave H2 := (Entails.of_eq (bigSep_sep' (s := Finset.univ) (Φ := fun c : Dev nD => bundle m c) (Ψ := fun c => iprop(semVal (barC c) 0 ∗ G c)))) $$ H'; icases H2 with ⟨HB, H3⟩
  ihave H4 := (Entails.of_eq (bigSep_sep' (s := Finset.univ) (Φ := fun c : Dev nD => (semVal (barC c) 0 : sProp 𝕄)) (Ψ := fun c => G c))) $$ H3; icases H4 with ⟨Hv, HG⟩
  ihave Hu := (show bigSep Finset.univ (G (F := F)) ⊢ BI.own (ER (launchOf barCells scCells talkToks)) from
    Entails.of_eq (all_G (F := F))) $$ HG
  imod (Rounds.fund_launch ER (Rd (ins m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := shared (ins m) κ) (Φ := fun c => iprop(own1 c ∗ bundle m c)) fun c _ => T₀_intro m κ c)
  isplitr
  · unfold shared
    isplitr; · iexact Hinv
    isplitr; · iexact Hr
    iexact HL
  rw [bigSep_sep']
  isplitr [HB]
  · unfold own1
    rw [bigSep_sep']; isplitl [Hat]; · iapply hat $$ Hat
    rw [bigSep_sep']; isplitl [Hopen]; · iapply hopen $$ Hopen
    iapply (Entails.of_eq (toks_dealt (F := F))) $$ Htok
  · iexact HB

theorem unscoped_eq : ∀ sm : SemLoc sig, sm.isScoped .tc = false → sm = .reg 0 := by decide

theorem vend_arg (c : Dev nD) (r : Ref sig .tc) (h : r ∉ hostOps0_W) (h' : r ≠ main_v24) : Vend m c r = m ((c : Thread nD τ).loc r) :=
  (vend_of m c r fun e => h' (Proc.devRef_injective _ e)).trans (V1_of m c r h)

/-- What a device's buffers hold once the program is over: the arguments as launched, the result `outF`. -/
def Done (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_v24) = outF (ins m) c

set_option backward.isDefEq.respectTransparency.types false in
/-- From any memory with zero counters every fair execution of the four devices ends, each device's arguments as
    launched, its result `outF` of the inputs, and every semaphore counter back at zero. -/
theorem run_main : θ_run defs (onTc (τ := τ) (main (F := F))) ⟨m, fun _ => 0, ρ⟩
    (fun r => (∀ c : Dev nD, Done m c r.2) ∧ r.2.sem = fun _ => 0) :=
  Pipeline.θ_run_regions_kit_dev_sems (pcfgs (F := F)) adm (pdats m) () cellOf_inj EP defs₀ 𝒱 L lv m ρ main
    (Gen.segs m 𝒱 L lv (E m) () (pdats m) (reg m))
    (fun c Q => by
      rewrite [main_chain c, Pipeline.Seg.run_eq_chain,
        show (Gen.segs m 𝒱 L lv (E m) () (pdats m) (reg m) c).map Pipeline.Seg.prog = [
          StableHlo.seq (hostOps0 c),
          Prog.lift (.customCall (Pipeline.entry 0) ()) ] from rfl]
      dsimp (config := { failIfUnchanged := false }) only
      exact .rfl)
    (fun c => by simp only [Gen.segs, Pipeline.Seg.pipes_host, Pipeline.Seg.pipes_region, Pipeline.Seg.pipes_nil]; decide)
    (O₀ := fun c => due c 0) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [all_G]; iexact HX)
    (T₀ := T₀ m)
    (Tₙ := fun c => iprop(StableHlo.held (c : Thread nD τ) (Pipeline.ucRefs τ sig) (Vend m c) ∗ semVal (barC c) 0))
    (hch := fun c => ⟨.rfl, reg_pre m c, (reg_post m c).trans (by
      show iprop(StableHlo.held (c : Thread nD τ) (Pipeline.ucRefs τ sig) (Vend m c)
          ∗ semVal (barC c) 0 ∗ ∃ W, owes (c : Thread nD τ) (0 : CellTallies nD τ sig Unit) W) ⊢ _
      iintro ⟨Hh, Hb0, HO⟩
      isplitr [HO]
      · isplitl [Hh] <;> iassumption
      · iexact HO)⟩)
    (hinit := init m ρ)
    (QY := fun c s => Done m c s ∧ s.sem (barC c) = 0)
    (hfin := fun c s' => by
      unfold StableHlo.held
      iintro ⟨⟨Hh, Hb0⟩, HSI⟩
      ihave Hr := (pointsTo_read_all (Pipeline.ucRefs τ sig) (fun b => ((c : Thread nD τ).1, b)) (Vend m c) s') $$ [Hh HSI]
      · isplitl [Hh] <;> iassumption
      icases Hr with ⟨%h, HSI⟩
      icombine HSI Hb0 gives %hb
      imodintro
      isplitr
      · ipureintro
        have at_ (r : Ref sig .tc) (hr : (r : DevRef τ sig) ∈ Pipeline.ucRefs τ sig) := h (Proc.devRef .tc r) hr
        exact ⟨⟨(at_ main_arg0 (by decide)).trans (vend_arg m c _ (by decide) (by decide)),
          (at_ main_arg1 (by decide)).trans (vend_arg m c _ (by decide) (by decide)),
          (at_ main_arg2 (by decide)).trans (vend_arg m c _ (by decide) (by decide)),
          (at_ main_arg3 (by decide)).trans (vend_arg m c _ (by decide) (by decide)),
          (at_ main_arg4 (by decide)).trans (vend_arg m c _ (by decide) (by decide)),
          (at_ main_v24 (by decide)).trans (by unfold Vend; exact Function.update_self _ _ _)⟩, by simpa using hb⟩
      iexact HSI)
    (hQ := fun s h hs => ⟨fun c => (h c).1, sem_eq_zero hs fun c sm hsm => by
        obtain rfl := unscoped_eq sm hsm
        exact (h c).2⟩)

end Cert.Attn

end
-- ==== Proof.Frames.lean ====
/- The frames of the three programs: each run, read at the arguments and at the semaphores. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch

@[expose] public section

set_option maxRecDepth 16384

noncomputable section

namespace Cert.Attn

open Idealize.ShloMosaic Idealize.SL.Sem

/-- What is assumed of the precondition's shapes, proved: on one device's blocks. -/
theorem pre_facts : Cert.Pre_finite_KernelIdeal.Facts where
  bcast_S_S2x512x768 := by decide
  reducesTo_S2x512x768_S_d0_1_2 := by decide
  h_S_ := by decide
  bcast_S_S768x512 := by decide
  reducesTo_S768x512_S_d0_1 := by decide
  bcast_S_S8x512x32x64 := by decide
  reducesTo_S8x512x32x64_S_d0_1_2_3 := by decide

/-- The same on the reference's whole arrays. -/
theorem pre_facts_ref : Cert.Pre_finite_ReferenceIdeal.Facts := by
  constructor <;> decide

/-- The two printed kernels are one text: their bodies agree. -/
theorem body_eq : Cert.Kernel.defs₀ (F := Bits) = Cert.KernelIdeal.defs₀ (F := Bits) := by
  unfold Cert.Kernel.defs₀ Cert.KernelIdeal.defs₀
  congr 1
  funext l a
  match l, a with
  | 0, (t, s) => rfl

/-- And so do their tables. -/
theorem table_eq : Cert.Kernel.defs (F := Bits) = Cert.KernelIdeal.defs (F := Bits) := congrArg (Pipeline.defs _) body_eq

/-- A device's arguments are as launched. -/
def Same {F : FTy → Type} [FloatOps F] (m : (l : Loc Cert.KernelIdeal.nD Cert.KernelIdeal.τ Cert.KernelIdeal.sig) → Buf (Elt F) l)
    (s : MemSt Cert.KernelIdeal.nD Cert.KernelIdeal.τ Cert.KernelIdeal.sig (Elt F)) : Prop :=
  ∀ c : Dev Cert.KernelIdeal.nD,
    s.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ s.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ s.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ s.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ s.mem ((c.tc : Thread Cert.KernelIdeal.nD Cert.KernelIdeal.τ).loc Cert.KernelIdeal.main_arg4) = m ((c.tc : Thread Cert.KernelIdeal.nD Cert.KernelIdeal.τ).loc Cert.KernelIdeal.main_arg4)

/-- The run with its result dropped, for any table equal to the kernel's. -/
theorem ends {F : FTy → Type} [FloatOps F] (m : (l : Loc Cert.KernelIdeal.nD Cert.KernelIdeal.τ Cert.KernelIdeal.sig) → Buf (Elt F) l)
    (ρ : Dev Cert.KernelIdeal.nD → PrngReg) (d : _) (hd : d = Cert.KernelIdeal.defs (F := F)) :
    θ_run d (onTc (τ := Cert.KernelIdeal.τ) (Cert.KernelIdeal.main (F := F))) ⟨m, fun _ => 0, ρ⟩ (fun r => Same m r.2 ∧ r.2.sem = fun _ => 0) := by
  subst hd
  exact (θ_run Cert.KernelIdeal.defs _ _).mono
    (fun _ h => ⟨fun c => ⟨(h.1 c).1, (h.1 c).2.1, (h.1 c).2.2.1, (h.1 c).2.2.2.1, (h.1 c).2.2.2.2.1⟩, h.2⟩) (run_main (F := F) m ρ)

set_option maxHeartbeats 4000000 in
/-- The kernel on the hardware's floats: it ends, its arguments unchanged, its semaphores at zero. -/
theorem frame_kernel : Cert.quiescent_Kernel := fun m ρ _ => ends (F := Bits) m ρ (Cert.Kernel.defs (F := Bits)) table_eq

/-- The kernel over the extended reals: the same. -/
theorem frame_ideal : Cert.quiescent_KernelIdeal := fun m ρ _ => ends (F := Ideal) m ρ _ rfl

/-- The reference over the extended reals: the same; it has no semaphore. -/
theorem frame_ref : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.Attn

end
-- ==== Proof.Spec.lean ====
/- The problem's mathematics over the extended reals, as functions of the whole arrays' entries. -/
module

public import Idealize.ShloMosaic.Lib.Pointwise
public import Idealize.ShloMosaic.Lib.IdealHost
public import Idealize.ShloMosaic.Lib.Tactic.WordOmega

@[expose] public section

set_option maxRecDepth 16384

noncomputable section

namespace Cert.Attn.Spec

open Idealize.ShloMosaic

/-- The arrays' shapes. -/
abbrev TX : Shape := ⟨3, ![8, 512, 768]⟩
abbrev TQ : Shape := ⟨2, ![768, 2048]⟩
abbrev TK : Shape := ⟨4, ![8, 512, 32, 64]⟩
abbrev TO : Shape := ⟨2, ![2048, 768]⟩

variable (X : FVec Ideal TX .f32) (Wq : FVec Ideal TQ .f32) (K V : FVec Ideal TK .f32) (Wo : FVec Ideal TO .f32)

theorem feat_lt (h : Fin 32) (d : Fin 64) : h.val * 64 + d.val < 2048 := by omega
/-- Feature `d` of head `h`, among all of them. -/
abbrev feat (h : Fin 32) (d : Fin 64) : Fin 2048 := ⟨h.val * 64 + d.val, feat_lt h d⟩

/-- The queries. -/
def query (b : Fin 8) (i : Fin 512) (c : Fin 2048) : EReal := ∑ k : Fin 768, X (ix3 b i k) * Wq (ix2 k c)

/-- The scores, scaled by one eighth. -/
def score (b : Fin 8) (h : Fin 32) (i j : Fin 512) : EReal :=
  (∑ d : Fin 64, query X Wq b i (feat h d) * K (ix4 b j h d)) * ((1 / 8 : ℝ) : EReal)

/-- The window: `j` is at most 128 from `i`. -/
def Near (i j : Fin 512) : Prop := i.val ≤ j.val + 128 ∧ j.val ≤ i.val + 128
instance (i j : Fin 512) : Decidable (Near i j) := by unfold Near; infer_instance

/-- The scores with −∞ outside the window. -/
def masked (b : Fin 8) (h : Fin 32) (i j : Fin 512) : EReal := if Near i j then score X Wq K b h i j else ⊥

/-- A row's largest score. -/
def top (b : Fin 8) (h : Fin 32) (i : Fin 512) : EReal := Finset.univ.fold max ⊥ (fun j : Fin 512 => masked X Wq K b h i j)

/-- A score's exponential, the row's largest subtracted first. -/
def wt (b : Fin 8) (h : Fin 32) (i j : Fin 512) : EReal := Ideal.exp (masked X Wq K b h i j - top X Wq K b h i)

/-- The attention weights. -/
def prob (b : Fin 8) (h : Fin 32) (i j : Fin 512) : EReal :=
  Ideal.div (wt X Wq K b h i j) (∑ j' : Fin 512, wt X Wq K b h i j')

/-- Each head's combination of the values. -/
def ctx (b : Fin 8) (i : Fin 512) (h : Fin 32) (d : Fin 64) : EReal :=
  ∑ j : Fin 512, V (ix4 b j h d) * prob X Wq K b h i j

theorem head_lt (c : Fin 2048) : c.val / 64 < 32 := by omega
theorem dim_lt (c : Fin 2048) : c.val % 64 < 64 := by omega

/-- The result: the heads side by side against Wo. -/
def res (b : Fin 8) (i : Fin 512) (n : Fin 768) : EReal :=
  ∑ c : Fin 2048, ctx X Wq K V b i ⟨c.val / 64, head_lt c⟩ ⟨c.val % 64, dim_lt c⟩ * Wo (ix2 c n)

/-! ## The mask's word, and two constants -/

/-- The comparison of the words' distance with 128 says whether the column is in the row's window. -/
theorem near_word (i j : Fin 512) :
    IntOp.cmpi .sle (IntOp.absi (IntOp.subi (BitVec.ofNat 32 i.val) (BitVec.ofNat 32 j.val))) 128#32 = BitVec.ofBool (decide (Near i j)) := by
  have hi := i.isLt
  have hj := j.isLt
  show BitVec.ofBool (BitVec.sle _ _) = _
  congr 1
  rw [BitVec.sle_eq_decide, decide_eq_decide]
  unfold IntOp.absi IntOp.subi Near
  rw [BitVec.msb_eq_decide]
  have h1 : (BitVec.ofNat 32 i.val - BitVec.ofNat 32 j.val).toNat = (2 ^ 32 - j.val + i.val) % 2 ^ 32 := by
    rw [BitVec.toNat_sub, BitVec.toNat_ofNat, BitVec.toNat_ofNat, Nat.mod_eq_of_lt (a := j.val) (by omega), Nat.mod_eq_of_lt (a := i.val) (by omega)]
  have h2 : (128#32 : BitVec 32).toInt = 128 := by decide
  rw [h2]
  split
  · rename_i h
    rw [decide_eq_true_eq, h1] at h
    rw [BitVec.toInt_eq_toNat_cond, BitVec.toNat_neg, h1]
    split <;> omega
  · rename_i h
    rw [decide_eq_true_eq, h1] at h
    rw [BitVec.toInt_eq_toNat_cond, h1]
    split <;> omega

theorem near_self (i : Fin 512) : Near i i := ⟨by omega, by omega⟩

/-- One eighth, and −∞. -/
theorem eighth : Ideal.ofBits .f32 0x3E000000#32 = ((1 / 8 : ℝ) : EReal) := by
  simp [Ideal.ofBits, Ideal.ieee, -EReal.coe_mul]; norm_num
theorem neg_inf : Ideal.ofBits .f32 0xFF800000#32 = ⊥ := by
  simp [Ideal.ofBits, Ideal.ieee]

end Cert.Attn.Spec

end
-- ==== Proof.Inputs.lean ====
/- What the kernel's inputs hold, in terms of the program's arguments, over the extended reals. -/
module

public import proofs.«01_k».proof.Proof.Region
public import proofs.«01_k».proof.Proof.Spec
public import Idealize.ShloMosaic.Lib.StableHlo.ReadAt
public import Idealize.ShloMosaic.Lib.DynamicIndex

@[expose] public section

set_option maxRecDepth 16384

noncomputable section

namespace Cert.Attn.Inp

open Idealize.ShloMosaic Idealize.ShloMosaic.TcCoe
open Cert.KernelIdeal Cert.KernelIdeal.Gen
open Cert.Attn.Spec (eighth)

variable (m : (l : Loc nD τ sig) → Buf (Elt Ideal) l) (c : Dev nD)

/-- The arguments on device `c`. -/
abbrev A0 : FVec Ideal S2x512x768 .f32 := m ((c.tc : Thread nD τ).loc main_arg0)
abbrev A1 : FVec Ideal S768x512 .f32 := m ((c.tc : Thread nD τ).loc main_arg1)
abbrev A2 : FVec Ideal S8x512x32x64 .f32 := m ((c.tc : Thread nD τ).loc main_arg2)
abbrev A3 : FVec Ideal S8x512x32x64 .f32 := m ((c.tc : Thread nD τ).loc main_arg3)
abbrev A4 : FVec Ideal S512x768 .f32 := m ((c.tc : Thread nD τ).loc main_arg4)

/-- The rows are the first argument's. -/
theorem x_apply (b : Fin 2) (i : Fin 512) (k : Fin 768) :
    (ins m).x c (ix3 b i k) = A0 m c (ix3 b i k) := by
  rw [ins_x]
  show StableHlo.after (hostOps0 c) (V0 m c) _ _ = _
  after_reads_at

/-- The query weights are the second argument's, scaled. -/
theorem wq_apply (k : Fin 768) (f : Fin 512) :
    (ins m).wq c (ix2 k f) = (A1 m c (ix2 k f) : EReal) * ((1 / 8 : ℝ) : EReal) := by
  rw [ins_wq]
  show StableHlo.after (hostOps0 c) (V0 m c) _ _ = _
  after_reads_at
  rw [eighth]

/-- The output weights are the last argument's. -/
theorem wo_apply (f : Fin 512) (n : Fin 768) :
    (ins m).wo c (ix2 f n) = A4 m c (ix2 f n) := by
  rw [ins_wo]
  show StableHlo.after (hostOps0 c) (V0 m c) _ _ = _
  after_reads_at

theorem blk_lt (d : Dev nD) (b : Fin 2) : 2 * d.val + b.val < 8 := by
  have := d.isLt; simp only [nD] at *; omega

theorem slab_slices : S8x512x32x64.Slices ![2 * c.val, 0, 0, 0] S2x512x32x64 := by revert c; decide

theorem start_int (c : Dev nD) : (BitVec.ofNat 32 (2 * c.val)).toInt = ((2 * c.val : ℕ) : ℤ) := by revert c; decide

/-- Where K's rows start. -/
theorem kh_start : @Eq (IVec S_ 32) (StableHlo.upto (hostOps0 c) (V0 m c) 16 (Proc.devRef .tc main_v8)) (fun _ => BitVec.ofNat 32 (2 * c.val)) := by
  after_reads_simp
  funext x
  revert x c
  decide +kernel

/-- A start at zero. -/
theorem c_4_zero : @Eq (IVec S_ 32) (StableHlo.upto (hostOps0 c) (V0 m c) 16 (Proc.devRef .tc main_c_4)) (fun _ => 0#32) := by
  after_reads_simp
  rfl

/-- A start at zero. -/
theorem c_5_zero : @Eq (IVec S_ 32) (StableHlo.upto (hostOps0 c) (V0 m c) 16 (Proc.devRef .tc main_c_5)) (fun _ => 0#32) := by
  after_reads_simp
  rfl

/-- A start at zero. -/
theorem c_6_zero : @Eq (IVec S_ 32) (StableHlo.upto (hostOps0 c) (V0 m c) 16 (Proc.devRef .tc main_c_6)) (fun _ => 0#32) := by
  after_reads_simp
  rfl

/-- The rows of K a device's block reads. -/
theorem kh_apply (b : Fin 2) (j : Fin 512) (h : Fin 32) (d : Fin 64) (f : Fin 2048) (hf : f.val = h.val * 64 + d.val) :
    (ins m).kh c (ix3 b j f) = A2 m c (ix4 ⟨2 * c.val + b.val, blk_lt c b⟩ j h d) := by
  rw [ins_kh]
  show StableHlo.after (hostOps0 c) (V0 m c) _ _ = _
  after_reads_simp
  rw [Host.dynamicSlice_eq_extractStridedSlice (off := ![2 * c.val, 0, 0, 0]) (hoff := slab_slices c)]
  · clean_types
    pointwise
    have h1 : (⟨f.val / 64, by omega⟩ : Fin 32) = h := Fin.ext (by show f.val / 64 = h.val; omega)
    have h2 : (⟨f.val % 64, by omega⟩ : Fin 64) = d := Fin.ext (by show f.val % 64 = d.val; omega)
    rw [h1, h2]
  · intro a
    fin_cases a
    · exact (congrArg (fun v : IVec S_ 32 => (v (Shape.Idx.first h_S_)).toInt) (kh_start m c)).trans (start_int c)
    · exact congrArg (fun v : IVec S_ 32 => (v (Shape.Idx.first h_S_)).toInt) (c_4_zero m c)
    · exact congrArg (fun v : IVec S_ 32 => (v (Shape.Idx.first h_S_)).toInt) (c_5_zero m c)
    · exact congrArg (fun v : IVec S_ 32 => (v (Shape.Idx.first h_S_)).toInt) (c_6_zero m c)

/-- Where V's rows start. -/
theorem vh_start : @Eq (IVec S_ 32) (StableHlo.upto (hostOps0 c) (V0 m c) 29 (Proc.devRef .tc main_v15)) (fun _ => BitVec.ofNat 32 (2 * c.val)) := by
  after_reads_simp
  funext x
  revert x c
  decide +kernel

/-- A start at zero. -/
theorem c_10_zero : @Eq (IVec S_ 32) (StableHlo.upto (hostOps0 c) (V0 m c) 29 (Proc.devRef .tc main_c_10)) (fun _ => 0#32) := by
  after_reads_simp
  rfl

/-- A start at zero. -/
theorem c_11_zero : @Eq (IVec S_ 32) (StableHlo.upto (hostOps0 c) (V0 m c) 29 (Proc.devRef .tc main_c_11)) (fun _ => 0#32) := by
  after_reads_simp
  rfl

/-- A start at zero. -/
theorem c_12_zero : @Eq (IVec S_ 32) (StableHlo.upto (hostOps0 c) (V0 m c) 29 (Proc.devRef .tc main_c_12)) (fun _ => 0#32) := by
  after_reads_simp
  rfl

/-- The rows of V a device's block reads. -/
theorem vh_apply (b : Fin 2) (j : Fin 512) (h : Fin 32) (d : Fin 64) (f : Fin 2048) (hf : f.val = h.val * 64 + d.val) :
    (ins m).vh c (ix3 b j f) = A3 m c (ix4 ⟨2 * c.val + b.val, blk_lt c b⟩ j h d) := by
  rw [ins_vh]
  show StableHlo.after (hostOps0 c) (V0 m c) _ _ = _
  after_reads_simp
  rw [Host.dynamicSlice_eq_extractStridedSlice (off := ![2 * c.val, 0, 0, 0]) (hoff := slab_slices c)]
  · clean_types
    pointwise
    have h1 : (⟨f.val / 64, by omega⟩ : Fin 32) = h := Fin.ext (by show f.val / 64 = h.val; omega)
    have h2 : (⟨f.val % 64, by omega⟩ : Fin 64) = d := Fin.ext (by show f.val % 64 = d.val; omega)
    rw [h1, h2]
  · intro a
    fin_cases a
    · exact (congrArg (fun v : IVec S_ 32 => (v (Shape.Idx.first h_S_)).toInt) (vh_start m c)).trans (start_int c)
    · exact congrArg (fun v : IVec S_ 32 => (v (Shape.Idx.first h_S_)).toInt) (c_10_zero m c)
    · exact congrArg (fun v : IVec S_ 32 => (v (Shape.Idx.first h_S_)).toInt) (c_11_zero m c)
    · exact congrArg (fun v : IVec S_ 32 => (v (Shape.Idx.first h_S_)).toInt) (c_12_zero m c)

end Cert.Attn.Inp

end
-- ==== Proof.KVal.lean ====
/- What the kernel leaves in the result's buffer over the extended reals, entry by entry. -/
module

public import proofs.«01_k».proof.Proof.Val
public import proofs.«01_k».proof.Proof.Spec

@[expose] public section

set_option maxRecDepth 16384

noncomputable section

namespace Cert.Attn.Ker

open Idealize.ShloMosaic Idealize.ShloMosaic.TcCoe
open Cert.KernelIdeal Cert.KernelIdeal.Gen
open Cert.Attn.Spec (Near near_word)

/-- The mask is 1 in the window and 0 outside. -/
theorem mask_apply (i j : Fin 512) : k0_pay1 (F := Ideal) (ix2 i j) = if Near i j then 1 else 0 := by
  pointwise [k0_pay1]
  rw [near_word]
  by_cases h : Near i j
  · simp only [h, decide_true, if_true]
    show (((BitVec.setWidth 32 (BitVec.ofBool true)).toInt : ℝ) : EReal) = 1
    rw [show (BitVec.setWidth 32 (BitVec.ofBool true)).toInt = 1 by decide]
    norm_num
  · simp only [h, decide_false, if_false]
    show (((BitVec.setWidth 32 (BitVec.ofBool false)).toInt : ℝ) : EReal) = 0
    norm_num

/-- A weight before the division. -/
def ew (q k : Fin 64 → EReal) (n : Prop) [Decidable n] : EReal := Ideal.exp (∑ e, q e * k e) * (if n then 1 else 0)

/-- A head's row and column: the division comes last. -/
def hd (i : Fin 512) (q : Fin 64 → EReal) (k : Fin 512 → Fin 64 → EReal) (v : Fin 512 → EReal) : EReal :=
  (∑ j, ew q (k j) (Near i j) * v j) * Ideal.div 1 (∑ j, ew q (k j) (Near i j))

theorem headOf_apply (q k v : FVec Ideal S512x64 .bf16) (i : Fin 512) (d : Fin 64) :
    headOf k0_pay1 q k v (ix2 i d) = hd i (fun e => q (ix2 i e)) (fun j e => k (ix2 j e)) (fun j => v (ix2 j d)) := by
  pointwise [headOf]
  simp only [mask_apply]
  rfl

theorem qOf_apply (wq : FVec Ideal S768x512 .bf16) (xb : FVec Ideal S1x512x768 .bf16) (i f : Fin 512) :
    qOf wq xb (ix2 i f) = ∑ k : Fin 768, xb (ix3 0 i k) * wq (ix2 k f) := by
  pointwise [qOf]

theorem headAt_apply (o : ℕ) (h : S512x512.Slices ![0, o] S512x64) (ho : o + 64 ≤ 512) (q : FVec Ideal S512x512 .bf16) (k v : FVec Ideal S1x1x512x64 .bf16) (i : Fin 512) (d : Fin 64) :
    headAt ![0, o] h q k v (ix2 i d)
      = hd i (fun e => q (ix2 i ⟨o + e.val, by omega⟩)) (fun j e => k (ix4 0 0 j e)) (fun j => v (ix4 0 0 j d)) := by
  unfold headAt
  rw [headOf_apply]
  pointwise

theorem slot_apply (M : FVec Ideal S2x512x2048 .bf16) (c : Dev nD) (j : Fin 4) (b : Fin 2) (h : Fin 8) (r : Fin 512) (d : Fin 64) :
    slotAt kM c (filled c M) j b h (ix4 0 0 r d) = M (ix3 b r ⟨512 * (who c j).val + (64 * h.val + d.val), col_lt _ ⟨64 * h.val + d.val, by omega⟩⟩) := by
  unfold slotAt
  pointwise
  change M _ = M _
  congr 1
  funext a
  apply Fin.ext
  fin_cases a
  · show b.val + 1 * 0 = b.val
    omega
  · show 0 + 1 * r.val = r.val
    omega
  · show 512 * (who c ⟨j.val + 1 * 0, _⟩).val + (64 * h.val + 1 * d.val) = 512 * (who c j).val + (64 * h.val + d.val)
    simp

theorem vslot_apply (M : FVec Ideal S2x512x2048 .bf16) (c : Dev nD) (j : Fin 4) (b : Fin 2) (h : Fin 8) (r : Fin 512) (d : Fin 64) :
    slotAt vM c (filled c M) j b h (ix4 0 0 r d) = M (ix3 b r ⟨512 * (who c j).val + (64 * h.val + d.val), col_lt _ ⟨64 * h.val + d.val, by omega⟩⟩) := by
  unfold slotAt
  pointwise
  change M _ = M _
  congr 1
  funext a
  apply Fin.ext
  fin_cases a
  · show b.val + 1 * 0 = b.val
    omega
  · show 0 + 1 * r.val = r.val
    omega
  · show 512 * (who c ⟨j.val + 1 * 0, _⟩).val + (64 * h.val + 1 * d.val) = 512 * (who c j).val + (64 * h.val + d.val)
    simp

theorem xAt_apply (I : Ins Ideal) (c : Dev nD) (b : Fin 2) (i : Fin 512) (k : Fin 768) : xAt I c b (ix3 0 i k) = I.x c (ix3 b i k) := by
  unfold xAt
  pointwise
  change I.x c _ = I.x c _
  congr 1
  funext a
  apply Fin.ext
  fin_cases a
  · show b.val + 1 * 0 = b.val
    omega
  · show 0 + 1 * i.val = i.val
    omega
  · show 0 + 1 * k.val = k.val
    omega

/-- The head and dimension a feature of a chunk belongs to. -/
theorem head_at (q : FVec Ideal S512x512 .bf16) (k v : Fin 8 → FVec Ideal S1x1x512x64 .bf16) (i f : Fin 512) (d : Fin 64) (h : Fin 8) (o : ℕ)
    (ho : o = 64 * h.val) (hs : S512x512.Slices ![0, o] S512x64) (hf : f.val = o + d.val) :
    headAt ![0, o] hs q (k h) (v h) (ix2 i d)
      = hd i (fun e => q (ix2 i ⟨64 * (f.val / 64) + e.val, by omega⟩)) (fun j e => k ⟨f.val / 64, by omega⟩ (ix4 0 0 j e))
          (fun j => v ⟨f.val / 64, by omega⟩ (ix4 0 0 j ⟨f.val % 64, by omega⟩)) := by
  subst ho
  rw [headAt_apply _ _ (by omega)]
  have h1 : (⟨f.val / 64, by omega⟩ : Fin 8) = h := Fin.ext (by show f.val / 64 = h.val; omega)
  have h2 : (⟨f.val % 64, by omega⟩ : Fin 64) = d := Fin.ext (by show f.val % 64 = d.val; omega)
  have h3 : f.val / 64 = h.val := by omega
  rw [h1, h2]
  simp only [h3]

/-- A chunk's heads side by side. -/
theorem headsOf_apply (q : FVec Ideal S512x512 .bf16) (k v : Fin 8 → FVec Ideal S1x1x512x64 .bf16) (i f : Fin 512) :
    headsOf q k v (ix2 i f)
      = hd i (fun e => q (ix2 i ⟨64 * (f.val / 64) + e.val, by omega⟩)) (fun j e => k ⟨f.val / 64, by omega⟩ (ix4 0 0 j e))
          (fun j => v ⟨f.val / 64, by omega⟩ (ix4 0 0 j ⟨f.val % 64, by omega⟩)) := by
  pointwise [headsOf]
  split; · exact head_at q k v i f _ 0 0 rfl _ (by simp only []; omega)
  split; · exact head_at q k v i f _ 1 64 rfl _ (by simp only []; omega)
  split; · exact head_at q k v i f _ 2 128 rfl _ (by simp only []; omega)
  split; · exact head_at q k v i f _ 3 192 rfl _ (by simp only []; omega)
  split; · exact head_at q k v i f _ 4 256 rfl _ (by simp only []; omega)
  split; · exact head_at q k v i f _ 5 320 rfl _ (by simp only []; omega)
  split; · exact head_at q k v i f _ 6 384 rfl _ (by simp only []; omega)
  exact head_at q k v i f _ 7 448 rfl _ (by simp only []; omega)

theorem chunkOf_apply (wq : FVec Ideal S768x512 .bf16) (wo : FVec Ideal S512x768 .bf16) (xb : FVec Ideal S1x512x768 .bf16) (k v : Fin 8 → FVec Ideal S1x1x512x64 .bf16)
    (i : Fin 512) (n : Fin 768) :
    chunkOf wq wo xb k v (ix2 i n) = ∑ f : Fin 512, headsOf (qOf wq xb) k v (ix2 i f) * wo (ix2 f n) := by
  pointwise [chunkOf]

theorem lay_apply (v : FVec Ideal S512x768 .f32) (i : Fin 512) (n : Fin 768) : lay v (ix3 0 i n) = v (ix2 i n) := by
  pointwise
theorem flat_apply (v : FVec Ideal S1x512x768 .f32) (i : Fin 512) (n : Fin 768) : flat v (ix2 i n) = v (ix3 0 i n) := by
  pointwise

theorem pay2_eq (v : FVec Ideal S768x512 .bf16) : k0_pay2 v = v := by
  funext j; idx_vars j; pointwise [k0_pay2]
theorem pay3_eq (v : FVec Ideal S512x768 .bf16) : k0_pay3 v = v := by
  funext j; idx_vars j; pointwise [k0_pay3]

theorem feat_lt (d : Dev nD) (f : Fin 512) (e : Fin 64) : 512 * d.val + (64 * (f.val / 64) + e.val) < 2048 :=
  col_lt d ⟨64 * (f.val / 64) + e.val, by omega⟩

variable (I : Ins Ideal)

/-- Row `i` of block `b` on device `c` against the columns device `o` holds. -/
def qk (c : Dev nD) (b : Fin 2) (o : Dev nD) (i : Fin 512) (f : Fin 512) : EReal := ∑ k : Fin 768, I.x c (ix3 b i k) * I.wq o (ix2 k f)

/-- A feature of the heads whose weights device `o` holds. -/
def feature (c : Dev nD) (b : Fin 2) (o : Dev nD) (i f : Fin 512) : EReal :=
  hd i (fun e => qk I c b o i ⟨64 * (f.val / 64) + e.val, by omega⟩) (fun j e => I.kh c (ix3 b j ⟨512 * o.val + (64 * (f.val / 64) + e.val), feat_lt o f e⟩))
    (fun j => I.vh c (ix3 b j ⟨512 * o.val + (64 * (f.val / 64) + f.val % 64), feat_lt o f ⟨f.val % 64, by omega⟩⟩))

/-- What the heads of device `o` add to device `c`'s result. -/
def share (c : Dev nD) (b : Fin 2) (o : Dev nD) (i : Fin 512) (n : Fin 768) : EReal := ∑ f : Fin 512, feature I c b o i f * I.wo o (ix2 f n)

theorem part_apply (c : Dev nD) (b : Fin 2) (j : Fin 4) (i : Fin 512) (n : Fin 768) :
    part I c b (I.wq (who c j)) (I.wo (who c j)) j (ix2 i n) = share I c b (who c j) i n := by
  unfold part share
  rw [chunkOf_apply]
  refine Finset.sum_congr rfl fun f _ => ?_
  congr 1
  rw [headsOf_apply]
  unfold feature qk
  simp only [qOf_apply, xAt_apply, slot_apply]
  simp only [vslot_apply]

/-- A block of the result is the four devices' shares, in the order they arrive. -/
theorem acc_apply (c : Dev nD) (b : Fin 2) (i : Fin 512) (n : Fin 768) :
    acc3 I c b (ix3 0 i n) = share I c b c i n + share I c b (lt c) i n + share I c b (rt c) i n + share I c b (op c) i n := by
  unfold acc3
  rw [lay_apply]
  show flat (acc2 I c b) (ix2 i n) + _ = _
  rw [flat_apply]
  unfold acc2
  rw [lay_apply]
  show (flat (acc1 I c b) (ix2 i n) + _) + _ = _
  rw [flat_apply]
  unfold acc1
  rw [lay_apply]
  show ((flat (acc0 I c b) (ix2 i n) + _) + _) + _ = _
  rw [flat_apply]
  unfold acc0
  rw [lay_apply, pay2_eq, pay3_eq, wqR_eq, woR_eq]
  have h0 := part_apply I c b 0 i n
  have h1 := part_apply I c b 1 i n
  have h2 := part_apply I c b 2 i n
  have h3 := part_apply I c b 3 i n
  exact congrArg₂ (· + ·) (congrArg₂ (· + ·) (congrArg₂ (· + ·) h0 h1) h2) h3

/-- The result's buffer, entry by entry. -/
theorem out_apply (c : Dev nD) (b : Fin 2) (i : Fin 512) (n : Fin 768) :
    outF I c (ix3 b i n) = share I c b c i n + share I c b (lt c) i n + share I c b (rt c) i n + share I c b (op c) i n := by
  rw [← acc_apply]
  unfold outF
  have e0 : r0.emb (ix3 0 i n) = ix3 0 i n := by
    funext a; apply Fin.ext; fin_cases a
    · rfl
    · show 0 + 1 * i.val = i.val; omega
    · show 0 + 1 * n.val = n.val; omega
  have e1 : r1.emb (ix3 0 i n) = ix3 1 i n := by
    funext a; apply Fin.ext; fin_cases a
    · rfl
    · show 0 + 1 * i.val = i.val; omega
    · show 0 + 1 * n.val = n.val; omega
  match b with
  | 0 =>
    rw [View.canon_cons_of_not_mem _ _ (by rw [r1_mem]; show ¬ (0 : ℕ) = 1; decide)]
    rw [← e0, View.canon_cons_emb]
  | 1 =>
    rw [← e1, View.canon_cons_emb]

end Cert.Attn.Ker

end
-- ==== Proof.Soft.lean ====
/- The softmax over a window, once with the row's largest subtracted and once without. -/
module

public import Idealize.ShloMosaic.PureOps.Ideal
public import Idealize.ShloMosaic.Lib.IdealHost

@[expose] public section

noncomputable section

namespace Cert.Attn.Soft

open Idealize.ShloMosaic

/-- A nonnegative real factor goes into a sum, whatever the terms. -/
theorem sum_mul_real {ι : Type} (s : Finset ι) (f : ι → EReal) (r : ℝ) (hr : 0 ≤ r) :
    (∑ x ∈ s, f x) * (r : EReal) = ∑ x ∈ s, f x * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A sum of reals is real. -/
theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

section
variable {ι : Type} [Fintype ι] (P : ι → Prop) [DecidablePred P] (s : ι → ℝ)

/-- A score, −∞ outside the window. -/
def msk (j : ι) : EReal := if P j then (s j : EReal) else ⊥
/-- The exponential of a score, 0 outside the window. -/
def g (j : ι) : ℝ := if P j then Real.exp (s j) else 0

theorem g_nonneg (j : ι) : 0 ≤ g P s j := by
  unfold g; split
  · exact (Real.exp_pos _).le
  · exact le_rfl

theorem sum_pos (j0 : ι) (h0 : P j0) : 0 < ∑ j, g P s j := by
  refine Finset.sum_pos' (fun j _ => g_nonneg P s j) ⟨j0, Finset.mem_univ _, ?_⟩
  unfold g; rw [if_pos h0]; exact Real.exp_pos _

/-- The largest score of a row that has one is real. -/
theorem top_real (j0 : ι) (h0 : P j0) : ∃ t : ℝ, Finset.univ.fold max ⊥ (msk P s) = (t : EReal) := by
  have h1 : Finset.univ.fold max ⊥ (msk P s) ≠ ⊤ := by
    apply ne_of_lt
    rw [Finset.fold_max_lt]
    refine ⟨bot_lt_top, fun j _ => ?_⟩
    unfold msk; split
    · exact EReal.coe_lt_top _
    · exact bot_lt_top
  have h2 : Finset.univ.fold max ⊥ (msk P s) ≠ ⊥ := by
    apply ne_of_gt
    refine lt_of_lt_of_le (EReal.bot_lt_coe (s j0)) ?_
    rw [Finset.le_fold_max]
    refine .inr ⟨j0, Finset.mem_univ _, ?_⟩
    unfold msk; rw [if_pos h0]
  exact ⟨_, (EReal.coe_toReal h1 h2).symm⟩

/-- The exponential after a real is subtracted is the exponential times a constant. -/
theorem exp_sub (t : ℝ) (j : ι) : Ideal.exp (msk P s j - (t : EReal)) = ((g P s j * Real.exp (-t) : ℝ) : EReal) := by
  unfold msk g
  split
  · rw [← EReal.coe_sub]
    show ((Real.exp (s j - t) : ℝ) : EReal) = _
    rw [sub_eq_add_neg, Real.exp_add]
  · rw [EReal.bot_sub]
    show (0 : EReal) = _
    simp

/-- The exponential with the mask as a factor. -/
theorem exp_mask (j : ι) : Ideal.exp (s j : EReal) * (if P j then 1 else 0) = ((g P s j : ℝ) : EReal) := by
  unfold g
  split
  · rw [mul_one]; rfl
  · rw [mul_zero]; rfl

/-- The weights do not depend on what is subtracted from a row. -/
theorem weight (j0 : ι) (h0 : P j0) (j : ι) :
    Ideal.div (Ideal.exp (msk P s j - Finset.univ.fold max ⊥ (msk P s))) (∑ j', Ideal.exp (msk P s j' - Finset.univ.fold max ⊥ (msk P s)))
      = ((g P s j * (1 / ∑ j', g P s j') : ℝ) : EReal) := by
  obtain ⟨t, ht⟩ := top_real P s j0 h0
  rw [ht]
  simp only [exp_sub]
  rw [← coe_sum, ← Finset.sum_mul]
  have hG := sum_pos P s j0 h0
  have hE := Real.exp_pos (-t)
  rw [Ideal.div_coe (mul_pos hG hE).ne', ← EReal.coe_mul]
  congr 1
  field_simp

/-- The combination of the values: weights first, or exponentials first and the division last. -/
theorem combine (j0 : ι) (h0 : P j0) (v : ι → EReal) :
    (∑ j, Ideal.exp (s j : EReal) * (if P j then 1 else 0) * v j) * Ideal.div 1 (∑ j, Ideal.exp (s j : EReal) * (if P j then 1 else 0))
      = ∑ j, v j * Ideal.div (Ideal.exp (msk P s j - Finset.univ.fold max ⊥ (msk P s)))
          (∑ j', Ideal.exp (msk P s j' - Finset.univ.fold max ⊥ (msk P s))) := by
  simp only [weight P s j0 h0, exp_mask]
  have hG := sum_pos P s j0 h0
  rw [← coe_sum, Ideal.div_coe hG.ne', one_mul, sum_mul_real _ _ _ (one_div_pos.mpr hG).le]
  refine Finset.sum_congr rfl fun j _ => ?_
  rw [EReal.coe_mul, ← mul_assoc, mul_comm (v j)]
end

end Cert.Attn.Soft

end
-- ==== Proof.Bridge.lean ====
/- The kernel's result is the problem's: feature by feature, then the sum over the four devices' features. -/
module

public import proofs.«01_k».proof.Proof.KVal
public import proofs.«01_k».proof.Proof.Soft

@[expose] public section

set_option maxRecDepth 16384

noncomputable section

namespace Cert.Attn.Bridge

open Idealize.ShloMosaic Idealize.ShloMosaic.TcCoe
open Cert.KernelIdeal
open Cert.Attn.Spec Cert.Attn.Ker Cert.Attn.Soft

variable (I : Ins Ideal) (X : FVec Ideal TX .f32) (Wq : FVec Ideal TQ .f32) (K V : FVec Ideal TK .f32) (Wo : FVec Ideal TO .f32)

theorem blk_lt (c : Dev nD) (b : Fin 2) : 2 * c.val + b.val < 8 := by
  have := c.isLt; simp only [nD] at *; omega
/-- Block `b` of device `c`, among all of them. -/
abbrev blk (c : Dev nD) (b : Fin 2) : Fin 8 := ⟨2 * c.val + b.val, blk_lt c b⟩
/-- Feature `f` of device `o`, among all of them. -/
abbrev col (o : Dev nD) (f : Fin 512) : Fin 2048 := ⟨512 * o.val + f.val, col_lt o f⟩

/-- The kernel's inputs hold the devices' blocks of the whole arrays. -/
structure Holds : Prop where
  x : ∀ c b i k, I.x c (ix3 b i k) = X (ix3 (blk c b) i k)
  wq : ∀ c k f, I.wq c (ix2 k f) = (Wq (ix2 k (col c f)) : EReal) * ((1 / 8 : ℝ) : EReal)
  wo : ∀ c f n, I.wo c (ix2 f n) = Wo (ix2 (col c f) n)
  kh : ∀ c b j (h : Fin 32) (d : Fin 64) (f : Fin 2048), f.val = h.val * 64 + d.val → I.kh c (ix3 b j f) = K (ix4 (blk c b) j h d)
  vh : ∀ c b j (h : Fin 32) (d : Fin 64) (f : Fin 2048), f.val = h.val * 64 + d.val → I.vh c (ix3 b j f) = V (ix4 (blk c b) j h d)

/-- A sum over all features is the sum over the devices of theirs. -/
theorem sum_feat (G : Fin 2048 → EReal) : ∑ a : Fin 2048, G a = ∑ o : Fin 4, ∑ f : Fin 512, G ⟨512 * o.val + f.val, by omega⟩ := by
  rw [← Fintype.sum_prod_type' (fun (o : Fin 4) (f : Fin 512) => G ⟨512 * o.val + f.val, by omega⟩)]
  refine (Fintype.sum_equiv (finProdFinEquiv (m := 4) (n := 512)) _ _ fun p => ?_).symm
  congr 1
  apply Fin.ext
  show 512 * p.1.val + p.2.val = p.2.val + 512 * p.1.val
  omega

/-- The four devices in the order device `c` meets them are the four devices. -/
theorem sum_dev (S : Dev nD → EReal) (c : Dev nD) : S c + S (lt c) + S (rt c) + S (op c) = ∑ o : Fin 4, S o := by
  rw [Fin.sum_univ_four]
  match c with
  | 0 => show S 0 + S 3 + S 1 + S 2 = _; abel
  | 1 => show S 1 + S 0 + S 2 + S 3 = _; abel
  | 2 => show S 2 + S 1 + S 3 + S 0 = _; abel
  | 3 => show S 3 + S 2 + S 0 + S 1 = _; abel

section
variable (x : TX.Idx → ℝ) (w : TQ.Idx → ℝ) (k : TK.Idx → ℝ)

/-- A score of real inputs. -/
def rscore (b : Fin 8) (h : Fin 32) (i j : Fin 512) : ℝ :=
  (∑ d : Fin 64, (∑ a : Fin 768, x (ix3 b i a) * w (ix2 a (feat h d))) * k (ix4 b j h d)) * (1 / 8)

variable (hx : ∀ i, X i = ((x i : ℝ) : EReal)) (hw : ∀ i, Wq i = ((w i : ℝ) : EReal)) (hk : ∀ i, K i = ((k i : ℝ) : EReal))
include hx hw hk

/-- The reference's score is real. -/
theorem score_real (b : Fin 8) (h : Fin 32) (i j : Fin 512) : score X Wq K b h i j = ((rscore x w k b h i j : ℝ) : EReal) := by
  unfold score query rscore
  simp only [hx, hw, hk, ← EReal.coe_mul, ← coe_sum]

/-- So is the kernel's, whose query weights are scaled first. -/
theorem kscore_real (b : Fin 8) (h : Fin 32) (i j : Fin 512) :
    (∑ d : Fin 64, (∑ a : Fin 768, (X (ix3 b i a) : EReal) * ((Wq (ix2 a (feat h d)) : EReal) * ((1 / 8 : ℝ) : EReal))) * (K (ix4 b j h d) : EReal))
      = ((rscore x w k b h i j : ℝ) : EReal) := by
  unfold rscore
  simp only [hx, hw, hk, ← EReal.coe_mul, ← coe_sum]
  congr 1
  rw [Finset.sum_mul]
  refine Finset.sum_congr rfl fun d _ => ?_
  rw [Finset.sum_mul, Finset.sum_mul, Finset.sum_mul]
  refine Finset.sum_congr rfl fun a _ => ?_
  ring

/-- A feature the kernel computes is the reference's. -/
theorem feature_eq (H : Holds I X Wq K V Wo) (c : Dev nD) (b : Fin 2) (o : Dev nD) (i f : Fin 512) (h : Fin 32) (d : Fin 64)
    (hf : 512 * o.val + f.val = h.val * 64 + d.val) :
    feature I c b o i f = ctx X Wq K V (blk c b) i h d := by
  have hc : ∀ e : Fin 64, col o ⟨64 * (f.val / 64) + e.val, by omega⟩ = feat h e := fun e => Fin.ext (by
    show 512 * o.val + (64 * (f.val / 64) + e.val) = h.val * 64 + e.val; omega)
  have hs : ∀ j, (∑ e : Fin 64, qk I c b o i ⟨64 * (f.val / 64) + e.val, by omega⟩
      * (I.kh c (ix3 b j ⟨512 * o.val + (64 * (f.val / 64) + e.val), feat_lt o f e⟩) : EReal)) = ((rscore x w k (blk c b) h i j : ℝ) : EReal) := by
    intro j
    rw [← kscore_real X Wq K x w k hx hw hk]
    refine Finset.sum_congr rfl fun e _ => ?_
    rw [H.kh c b j h e _ (by show 512 * o.val + (64 * (f.val / 64) + e.val) = h.val * 64 + e.val; omega)]
    unfold qk
    congr 1
    refine Finset.sum_congr rfl fun a _ => ?_
    rw [H.x, H.wq, hc]
  have hv : ∀ j, I.vh c (ix3 b j ⟨512 * o.val + (64 * (f.val / 64) + f.val % 64), feat_lt o f ⟨f.val % 64, by omega⟩⟩) = V (ix4 (blk c b) j h d) := fun j =>
    H.vh c b j h d _ (by show 512 * o.val + (64 * (f.val / 64) + f.val % 64) = h.val * 64 + d.val; omega)
  unfold feature hd ew
  simp only [hs, hv]
  have hm : ∀ j, masked X Wq K (blk c b) h i j = msk (Near i) (rscore x w k (blk c b) h i) j := by
    intro j; unfold masked msk; rw [score_real X Wq K x w k hx hw hk]
  unfold ctx prob wt top
  simp only [hm]
  exact combine (Near i) (rscore x w k (blk c b) h i) i (near_self i) (fun j => V (ix4 (blk c b) j h d))

/-- What device `c` leaves in its block is the problem's result there. -/
theorem out_eq (H : Holds I X Wq K V Wo) (c : Dev nD) (b : Fin 2) (i : Fin 512) (n : Fin 768) :
    outF I c (ix3 b i n) = res X Wq K V Wo (blk c b) i n := by
  rw [out_apply, sum_dev (fun o => share I c b o i n)]
  unfold res
  rw [sum_feat]
  refine Finset.sum_congr rfl fun o _ => ?_
  unfold share
  refine Finset.sum_congr rfl fun f _ => ?_
  have hd : 512 * o.val + f.val = (col o f).val / 64 * 64 + (col o f).val % 64 := by
    show 512 * o.val + f.val = (512 * o.val + f.val) / 64 * 64 + (512 * o.val + f.val) % 64
    omega
  have hF := feature_eq I X Wq K V Wo x w k hx hw hk H c b o i f ⟨(col o f).val / 64, head_lt _⟩ ⟨(col o f).val % 64, dim_lt _⟩ hd
  rw [hF, H.wo]
end

end Cert.Attn.Bridge

end
-- ==== Proof.RVal.lean ====
/- What the reference computes, entry by entry. -/
module

public import proofs.«01_k».proof.Proof.Gen.ReferenceIdeal.Run
public import proofs.«01_k».proof.Proof.Spec
public import Idealize.ShloMosaic.Lib.IdealHost
public import Idealize.ShloMosaic.Lib.Routing.OpsOrder
public import Idealize.ShloMosaic.Lib.Tactic.WordOmega

@[expose] public section

set_option maxRecDepth 16384

noncomputable section

namespace Cert.Attn.Ref

open Idealize.ShloMosaic Idealize.ShloMosaic.TcCoe
open Cert.ReferenceIdeal Cert.ReferenceIdeal.Gen
open Cert.Attn.Spec

variable (X : FVec Ideal S8x512x768 .f32) (Wq : FVec Ideal S768x2048 .f32) (K V : FVec Ideal S8x512x32x64 .f32) (Wo : FVec Ideal S2048x768 .f32)

/-- The window's mask, as the reference prints it. -/
def maskT : IVec S512x512 1 :=
  cmpi .sle (absi (subi (broadcastInDim S512x512 ![0, 1] bcast_S512x1_S512x512_0_1 (broadcastInDim S512x1 ![0] bcast_S512_S512x1_0 (iotaInDim S512 32 0))) (broadcastInDim S512x512 ![0, 1] bcast_S1x512_S512x512_0_1 (broadcastInDim S1x512 ![1] bcast_S512_S1x512_1 (iotaInDim S512 32 0))))) (broadcastInDim S512x512 ![] bcast_S_S512x512 (constantI S_ 32 128#32))

/-- The rows that keep some column. -/
def keepT : IVec S512 1 := Host.reduce IntOp.ori maskT (constantI S_ 1 0#1) reducesTo_S512x512_S512_d1 h_S_

/-- The queries. -/
def queryT : FVec Ideal S8x512x2048 .f32 := Host.dotGeneral (F := Ideal) dot_S8x512x768_S768x2048_S8x512x2048_2_0_01_1_n_n none X Wq

/-- The scores outside the window at −∞. -/
def scoreT : FVec Ideal S8x32x512x512 .f32 :=
  select (broadcastInDim S8x32x512x512 ![0, 1, 2, 3] bcast_S1x1x512x512_S8x32x512x512_0_1_2_3 (broadcastInDim S1x1x512x512 ![2, 3] bcast_S512x512_S1x1x512x512_2_3 maskT))
    (mulf (Host.dotGeneral (F := Ideal) dot_S8x512x32x64_S8x512x32x64_S8x32x512x512_3_3_1_1_02_02 none (shapeCast _ (queryT X Wq) shapeCasts_S8x512x2048_S8x512x32x64) K)
      (broadcastInDim S8x32x512x512 ![] bcast_S_S8x32x512x512 (constant S_ .f32 0x3E000000#32)))
    (broadcastInDim S8x32x512x512 ![] bcast_S_S8x32x512x512 (id (constant S_ .f32 0xFF800000#32)))

/-- Each row's largest. -/
def topT : FVec Ideal S8x32x512 .f32 :=
  Host.reduce FloatOps.maximumf (scoreT X Wq K) (constant S_ .f32 0xFF800000#32) reducesTo_S8x32x512x512_S8x32x512_d3 h_S_

/-- The exponentials. -/
def expT : FVec Ideal S8x32x512x512 .f32 :=
  Host.exp (subf (scoreT X Wq K) (broadcastInDim S8x32x512x512 ![0, 1, 2, 3] bcast_S8x32x512x1_S8x32x512x512_0_1_2_3 (broadcastInDim S8x32x512x1 ![0, 1, 2] bcast_S8x32x512_S8x32x512x1_0_1_2 (topT X Wq K))))

/-- The weights. -/
def probT : FVec Ideal S8x32x512x512 .f32 :=
  select (broadcastInDim S8x32x512x512 ![0, 1, 2, 3] bcast_S1x1x512x1_S8x32x512x512_0_1_2_3 (broadcastInDim S1x1x512x1 ![2] bcast_S512_S1x1x512x1_2 keepT))
    (Host.divf (expT X Wq K) (broadcastInDim S8x32x512x512 ![0, 1, 2, 3] bcast_S8x32x512x1_S8x32x512x512_0_1_2_3
      (select (broadcastInDim S8x32x512x1 ![0, 1, 2, 3] bcast_S1x1x512x1_S8x32x512x1_0_1_2_3 (broadcastInDim S1x1x512x1 ![2] bcast_S512_S1x1x512x1_2 keepT))
        (broadcastInDim S8x32x512x1 ![0, 1, 2] bcast_S8x32x512_S8x32x512x1_0_1_2 (Host.reduceAdd (expT X Wq K) (constant S_ .f32 0x00000000#32) reducesTo_S8x32x512x512_S8x32x512_d3 h_S_))
        (broadcastInDim S8x32x512x1 ![] bcast_S_S8x32x512x1 (id (constant S_ .f32 0x3F800000#32))))))
    (broadcastInDim S8x32x512x512 ![] bcast_S_S8x32x512x512 (id (constant S_ .f32 0x00000000#32)))

/-- The heads' combinations of the values. -/
def ctxT : FVec Ideal S8x32x64x512 .f32 :=
  Host.dotGeneral (F := Ideal) dot_S8x512x32x64_S8x32x512x512_S8x32x64x512_1_3_3_2_02_01 none V (probT X Wq K)

/-- The result. -/
def resT : FVec Ideal S8x512x768 .f32 :=
  Host.dotGeneral (F := Ideal) dot_S8x512x2048_S2048x768_S8x512x768_2_0_01_1_n_n none
    (shapeCast _ (transpose S8x512x32x64 [0, 3, 1, 2] (ctxT X Wq K V) transposes_S8x32x64x512_S8x512x32x64_0_3_1_2) shapeCasts_S8x512x32x64_S8x512x2048) Wo

/-- The reference's run ends with that. -/
theorem res_eq (m : (l : Loc nD τ sig) → Buf (Elt Ideal) l) (c : Dev nD) :
    Cert.ReferenceIdeal.Value.res_main_v34 m c
      = resT (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

/-- The mask's bit says whether the column is in the row's window. -/
theorem mask_apply (i j : Fin 512) : maskT (ix2 i j) = BitVec.ofBool (decide (Near i j)) := by
  pointwise [maskT]
  exact near_word i j

theorem query_apply (b : Fin 8) (i : Fin 512) (c : Fin 2048) : queryT X Wq (ix3 b i c) = query X Wq b i c := by
  pointwise [queryT]
  rfl

theorem score_apply (b : Fin 8) (h : Fin 32) (i j : Fin 512) : scoreT X Wq K (ix4 b h i j) = masked X Wq K b h i j := by
  pointwise [scoreT]
  rw [mask_apply, eighth]
  show Scalar.select _ _ (Ideal.ofBits .f32 0xFF800000#32) = _
  rw [neg_inf]
  unfold masked score Scalar.select
  simp only [query_apply]
  by_cases hn : Near i j
  · simp [hn]
  · simp [hn]

theorem top_apply (b : Fin 8) (h : Fin 32) (i : Fin 512) : topT X Wq K (ix3 b h i) = top X Wq K b h i := by
  pointwise [topT]
  rw [neg_inf]
  simp only [score_apply]
  rfl

theorem exp_apply (b : Fin 8) (h : Fin 32) (i j : Fin 512) : expT X Wq K (ix4 b h i j) = wt X Wq K b h i j := by
  pointwise [expT]
  rw [score_apply, top_apply]
  rfl

theorem keep_apply (i : Fin 512) : keepT (ix1 i) = 1#1 := by
  pointwise [keepT]
  rw [Routing.fold_ori]
  exact ⟨i, Finset.mem_univ _, by rw [mask_apply]; simp [near_self]⟩

theorem prob_apply (b : Fin 8) (h : Fin 32) (i j : Fin 512) : probT X Wq K (ix4 b h i j) = prob X Wq K b h i j := by
  pointwise [probT]
  rw [keep_apply]
  simp only [exp_apply]
  rfl

theorem ctx_apply (b : Fin 8) (i : Fin 512) (h : Fin 32) (d : Fin 64) : ctxT X Wq K V (ix4 b h d i) = ctx X Wq K V b i h d := by
  pointwise [ctxT]
  simp only [prob_apply]
  rfl

theorem res_apply (b : Fin 8) (i : Fin 512) (n : Fin 768) : resT X Wq K V Wo (ix3 b i n) = res X Wq K V Wo b i n := by
  pointwise [resT]
  simp only [ctx_apply]
  rfl

end Cert.Attn.Ref

end
-- ==== Proof.Finite.lean ====
/- What the precondition says: every entry of x, Wq and K is real. -/
module

public import proofs.«01_k».proof.Pre_finite_KernelIdeal
public import Idealize.ShloMosaic.PureOps.Ideal
public import Idealize.ShloMosaic.Lib.IdealHost
public import Idealize.ShloMosaic.Lib.ReduceAll

@[expose] public section

set_option maxRecDepth 16384

noncomputable section

namespace Cert.Attn.Fin0

open Idealize.ShloMosaic

/-- An absolute value below +∞ is of a real. -/
theorem real_of_lt (a : EReal) (h : max a (-a) < ⊤) : ∃ r : ℝ, a = (r : EReal) := by
  refine ⟨a.toReal, (EReal.coe_toReal ?_ ?_).symm⟩
  · rintro rfl; simp at h
  · rintro rfl; simp at h

theorem pos_inf : Ideal.ofBits .f32 0x7F800000#32 = ⊤ := by simp [Ideal.ofBits, Ideal.ieee]

/-- A comparison of the absolute value with +∞ that came out true. -/
theorem real_of_cmp (a : EReal) (h : FloatOps.cmpf (F := Ideal) (φ := .f32) .olt (max a (-a)) (Ideal.ofBits .f32 0x7F800000#32) = 1#1) :
    ∃ r : ℝ, a = (r : EReal) := by
  rw [pos_inf] at h
  apply real_of_lt
  by_contra hn
  revert h
  show ¬ (BitVec.ofBool (decide (max a (-a) < ⊤)) = 1#1)
  rw [decide_eq_false hn]
  decide

/-- The precondition, of the three arrays it reads. -/
theorem finite_iff [Cert.Pre_finite_KernelIdeal.Facts] (a0 : FVec Ideal ⟨3, ![2, 512, 768]⟩ .f32) (a1 : FVec Ideal ⟨2, ![768, 512]⟩ .f32) (a2 a3 : FVec Ideal ⟨4, ![8, 512, 32, 64]⟩ .f32)
    (a4 : FVec Ideal ⟨2, ![512, 768]⟩ .f32)
    (h : Cert.Pre_finite_KernelIdeal.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) := by
  have e := congrFun h (fun a : Fin 0 => a.elim0)
  dsimp only [Cert.Pre_finite_KernelIdeal.fn] at e
  obtain ⟨e, e2⟩ := IntOp.andi_eq_one.1 e
  obtain ⟨e0, e1⟩ := IntOp.andi_eq_one.1 e
  haveI : Subsingleton Cert.Pre_finite_KernelIdeal.S_.Idx := ⟨fun p q => funext fun a => a.elim0⟩
  exact ⟨fun i => real_of_cmp _ (Host.reduce_andi_all _ _ _ _ _ e0 i), fun i => real_of_cmp _ (Host.reduce_andi_all _ _ _ _ _ e1 i),
    fun i => real_of_cmp _ (Host.reduce_andi_all _ _ _ _ _ e2 i)⟩

end Cert.Attn.Fin0

end
-- ==== Proof.Algebraic.lean ====
/- The value claim: over the extended reals the kernel's result is the reference's. -/
module

public import proofs.«01_k».proof.Proof.Frames
public import proofs.«01_k».proof.Proof.Launch
public import proofs.«01_k».proof.Proof.Inputs
public import proofs.«01_k».proof.Proof.Bridge
public import proofs.«01_k».proof.Proof.RVal
public import proofs.«01_k».proof.Proof.Finite

@[expose] public section

set_option maxRecDepth 16384

noncomputable section

namespace Cert.Attn

open Idealize.ShloMosaic Idealize.ShloMosaic.TcCoe Idealize.SL.Sem
open Cert.KernelIdeal
open Cert.Attn.Spec Cert.Attn.Bridge

attribute [local irreducible] outF ins

/-! ## A device's block of a whole array, entry by entry -/

theorem block_x (v : FVec Ideal TX .f32) (c : Dev nD) (b : Fin 2) (i : Fin 512) (k : Fin 768) :
    Layout.block ⟨3, ![2, 512, 768]⟩ ⟨3, ![8, 512, 768]⟩ 0 4 c v (by decide) (ix3 b i k) = v (ix3 (blk c b) i k) := by
  rw [Layout.block_apply]
  congr 1
  funext a
  apply Fin.ext
  fin_cases a
  · show c.val * 2 + b.val = 2 * c.val + b.val
    omega
  · rfl
  · rfl

theorem block_q (v : FVec Ideal TQ .f32) (c : Dev nD) (k : Fin 768) (f : Fin 512) :
    Layout.block ⟨2, ![768, 512]⟩ ⟨2, ![768, 2048]⟩ 1 4 c v (by decide) (ix2 k f) = v (ix2 k (col c f)) := by
  rw [Layout.block_apply]
  congr 1
  funext a
  apply Fin.ext
  fin_cases a
  · rfl
  · show c.val * 512 + f.val = 512 * c.val + f.val
    omega

theorem block_o (v : FVec Ideal TO .f32) (c : Dev nD) (f : Fin 512) (n : Fin 768) :
    Layout.block ⟨2, ![512, 768]⟩ ⟨2, ![2048, 768]⟩ 0 4 c v (by decide) (ix2 f n) = v (ix2 (col c f) n) := by
  rw [Layout.block_apply]
  congr 1
  funext a
  apply Fin.ext
  fin_cases a
  · show c.val * 512 + f.val = 512 * c.val + f.val
    omega
  · rfl

section
variable (m : (l : Loc nD τ sig) → Buf (Elt Ideal) l)
  (X : FVec Ideal TX .f32) (Wq : FVec Ideal TQ .f32) (K V : FVec Ideal TK .f32) (Wo : FVec Ideal TO .f32)

/-- The arguments are the devices' blocks of the whole arrays. -/
structure Given : Prop where
  x : ∀ c, Inp.A0 m c = Layout.block ⟨3, ![2, 512, 768]⟩ ⟨3, ![8, 512, 768]⟩ 0 4 c X
  wq : ∀ c, Inp.A1 m c = Layout.block ⟨2, ![768, 512]⟩ ⟨2, ![768, 2048]⟩ 1 4 c Wq
  k : ∀ c, Inp.A2 m c = K
  v : ∀ c, Inp.A3 m c = V
  wo : ∀ c, Inp.A4 m c = Layout.block ⟨2, ![512, 768]⟩ ⟨2, ![2048, 768]⟩ 0 4 c Wo

variable (G : Given m X Wq K V Wo)
include G

/-- Then so are the kernel's inputs. -/
theorem holds : Holds (ins m) X Wq K V Wo where
  x c b i k := by rw [Inp.x_apply, G.x]; exact block_x X c b i k
  wq c k f := by rw [Inp.wq_apply, G.wq]; exact congrArg (fun t : EReal => t * ((1 / 8 : ℝ) : EReal)) (block_q Wq c k f)
  wo c f n := by rw [Inp.wo_apply, G.wo]; exact block_o Wo c f n
  kh c b j h d f hf := by rw [Inp.kh_apply m c b j h d f hf, G.k]
  vh c b j h d f hf := by rw [Inp.vh_apply m c b j h d f hf, G.v]

/-- Every entry of a whole array is in some device's block. -/
theorem real_x (h : ∀ c i, ∃ r : ℝ, Inp.A0 m c i = (r : EReal)) (i : TX.Idx) : ∃ r : ℝ, X i = (r : EReal) := by
  idx_vars i
  obtain ⟨r, hr⟩ := h ⟨i0.val / 2, by show i0.val / 2 < 4; omega⟩ (ix3 ⟨i0.val % 2, by omega⟩ i1 i2)
  refine ⟨r, ?_⟩
  rw [← hr, G.x, block_x]
  congr 2
  apply Fin.ext
  show i0.val = 2 * (i0.val / 2) + i0.val % 2
  omega
/-- So of Wq. -/
theorem real_q (h : ∀ c i, ∃ r : ℝ, Inp.A1 m c i = (r : EReal)) (i : TQ.Idx) : ∃ r : ℝ, Wq i = (r : EReal) := by
  idx_vars i
  obtain ⟨r, hr⟩ := h ⟨i1.val / 512, by show i1.val / 512 < 4; omega⟩ (ix2 i0 ⟨i1.val % 512, by omega⟩)
  refine ⟨r, ?_⟩
  rw [← hr, G.wq, block_q]
  congr 2
  apply Fin.ext
  show i1.val = 512 * (i1.val / 512) + i1.val % 512
  omega

/-- A device's result is its block of the reference's. -/
theorem result_eq (hx : ∀ c i, ∃ r : ℝ, Inp.A0 m c i = (r : EReal)) (hw : ∀ c i, ∃ r : ℝ, Inp.A1 m c i = (r : EReal))
    (hk : ∀ c i, ∃ r : ℝ, Inp.A2 m c i = (r : EReal)) (c : Dev nD) :
    outF (ins m) c = Layout.block ⟨3, ![2, 512, 768]⟩ ⟨3, ![8, 512, 768]⟩ 0 4 c (Ref.resT X Wq K V Wo) := by
  choose x hx using real_x m X Wq K V Wo G hx
  choose w hw using real_q m X Wq K V Wo G hw
  have hk' : ∀ i, ∃ r : ℝ, K i = (r : EReal) := fun i => by rw [← G.k 0]; exact hk 0 i
  choose k hk using hk'
  funext y
  idx_vars y
  rw [out_eq (ins m) X Wq K V Wo x w k hx hw hk (holds m X Wq K V Wo G) c y0 y1 y2]
  exact ((block_x _ c y0 y1 y2).trans (Ref.res_apply X Wq K V Wo _ y1 y2)).symm
end

/-- With x, Wq and K finite, each device ends with its block of the reference's result. -/
theorem algebraic : @Cert.algebraic_KernelIdeal_ReferenceIdeal_pre_finite_KernelIdeal Cert.KernelIdeal.Gen.facts Cert.ReferenceIdeal.Gen.facts pre_facts := by
  intro m g m' g' hpre hargs
  have G : Given m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    ⟨fun c => (hargs c).1, fun c => (hargs c).2.1, fun c => (hargs c).2.2.1, fun c => (hargs c).2.2.2.1, fun c => (hargs c).2.2.2.2⟩
  have hf := fun c => @Fin0.finite_iff pre_facts _ _ _ _ _ (hpre c)
  refine ⟨_, (θ_run _ _ _).mono (fun r h c => ?_) (run_main (F := Ideal) m g),
    (θ_run _ _ _).mono (fun r h => ⟨((h 0).1.trans (Ref.res_eq m' 0)), (h 0).2⟩) (Cert.ReferenceIdeal.Value.run (F := Ideal) m' g')⟩
  obtain ⟨e0, e1, e2, e3, e4, e5⟩ := h.1 c
  exact ⟨e5.trans (result_eq m _ _ _ _ _ G (fun c => (hf c).1) (fun c => (hf c).2.1) (fun c => (hf c).2.2) c), e0, e1, e2, e3, e4⟩

end Cert.Attn

end
-- ==== Proof.lean ====
/- The certificate's claims, put together. -/
module

public import proofs.«01_k».proof.Defs
public import proofs.«01_k».proof.Proof.Frames
public import proofs.«01_k».proof.Proof.Algebraic

@[expose] public section

noncomputable section

namespace Cert.Proof

open Cert.Attn

/-- Everything that is claimed. -/
theorem claim : Cert.Claim :=
  ⟨Cert.Kernel.Gen.facts, Cert.KernelIdeal.Gen.facts, Cert.ReferenceIdeal.Gen.facts, pre_facts, pre_facts_ref, frame_kernel, frame_ideal,
    fun m ρ _ => frame_ideal m ρ trivial, frame_ref, fun m ρ _ => frame_ref m ρ trivial, trivial, algebraic⟩

end Cert.Proof

end
